-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_windows_on_finite_maps [hPre_windows_on_finite_maps : Cert.Pre_windows_on_finite_maps.Facts] (m : (ℓ : Loc Cert.KernelIdeal.nD Cert.KernelIdeal.τ Cert.KernelIdeal.sig) → Buf (Elt Ideal) ℓ) : Prop :=
  ∀ c : Dev Cert.KernelIdeal.nD,
    (Cert.Pre_windows_on_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_windows_on_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_windows_on_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_windows_on_finite_maps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows_on_finite_maps [hPre_windows_on_finite_maps : Cert.Pre_windows_on_finite_maps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows_on_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_windows_on_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_windows_on_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_windows_on_finite_maps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_windows_on_finite_maps [hKernelIdeal : Cert.KernelIdeal.Facts] [hPre_windows_on_finite_maps : Cert.Pre_windows_on_finite_maps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows_on_finite_maps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_windows_on_finite_maps [hReferenceIdeal : Cert.ReferenceIdeal.Facts] [hPre_windows_on_finite_maps : Cert.Pre_windows_on_finite_maps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows_on_finite_maps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pack.Statement Cert.KernelIdeal.S4096x256
  ∧ IdealRules.named_const.Statement Cert.KernelIdeal.κ "inv21" .f32 0x3D430C31#32 ((21⁻¹ : ℝ) : EReal)

def algebraic_KernelIdeal_ReferenceIdeal_pre_windows_on_finite_maps [hKernelIdeal : Cert.KernelIdeal.Facts] [hReferenceIdeal : Cert.ReferenceIdeal.Facts] [hPre_windows_on_finite_maps : Cert.Pre_windows_on_finite_maps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows_on_finite_maps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_windows_on_finite_maps : Cert.Pre_windows_on_finite_maps.Facts),
    quiescent_Kernel (hKernel := hKernel)
    ∧ quiescent_KernelIdeal (hKernelIdeal := hKernelIdeal)
    ∧ quiescent_KernelIdeal_pre_windows_on_finite_maps (hKernelIdeal := hKernelIdeal) (hPre_windows_on_finite_maps := hPre_windows_on_finite_maps)
    ∧ quiescent_ReferenceIdeal (hReferenceIdeal := hReferenceIdeal)
    ∧ quiescent_ReferenceIdeal_pre_windows_on_finite_maps (hReferenceIdeal := hReferenceIdeal) (hPre_windows_on_finite_maps := hPre_windows_on_finite_maps)
    ∧ preserves_Kernel_KernelIdeal
    ∧ algebraic_KernelIdeal_ReferenceIdeal_pre_windows_on_finite_maps (hKernelIdeal := hKernelIdeal) (hReferenceIdeal := hReferenceIdeal) (hPre_windows_on_finite_maps := hPre_windows_on_finite_maps)
-- ==== Pre_windows_on_finite_maps.lean ====
abbrev S64x256x64x64 : Shape := ⟨4, ![64, 256, 64, 64]⟩
abbrev S64x21x2 : Shape := ⟨3, ![64, 21, 2]⟩
abbrev S21x256 : Shape := ⟨2, ![21, 256]⟩
abbrev S_ : Shape := ⟨0, ![]⟩

class Facts : Prop where
  bcast_S_S64x21x2 : S_.BroadcastsInDim S64x21x2 (![] : Fin 0 → Fin S64x21x2.rank)
  reducesTo_S64x21x2_S_d0_1_2 : S64x21x2.ReducesTo [0, 1, 2] S_
  h_S_ : 0 < S_.numel
  bcast_S_S64x256x64x64 : S_.BroadcastsInDim S64x256x64x64 (![] : Fin 0 → Fin S64x256x64x64.rank)
  reducesTo_S64x256x64x64_S_d0_1_2_3 : S64x256x64x64.ReducesTo [0, 1, 2, 3] S_

variable [Facts]

def fn_part1 {F : FTy → Type} [FloatOps F] (main_arg1 : FVec F S64x256x64x64 .f32) (main_v5 : IVec S_ 1) (main_v11 : IVec S_ 1) (main_v15 : IVec S_ 1) : IVec S_ 1 × IVec S_ 1 × IVec S_ 1 × IVec S_ 1 :=
  let main_v16 : FVec F S64x256x64x64 .f32 := Host.absf main_arg1
  let main_cst_6 : FVec F S_ .f32 := constant S_ .f32 0x7F800000#32
  let main_v17 : FVec F S64x256x64x64 .f32 := broadcastInDim S64x256x64x64 ![] bcast_S_S64x256x64x64 main_cst_6
  let main_v18 : IVec S64x256x64x64 1 := cmpf .olt main_v16 main_v17
  let main_c_7 : IVec S_ 1 := constantI S_ 1 1#1
  let main_v19 : IVec S_ 1 := (fun x v => Host.reduce IntOp.andi x v reducesTo_S64x256x64x64_S_d0_1_2_3 h_S_) main_v18 main_c_7
  (main_v5, main_v11, main_v15, main_v19)

def fn {F : FTy → Type} [FloatOps F] (main_arg0 : FVec F S64x256x64x64 .f32) (main_arg1 : FVec F S64x256x64x64 .f32) (main_arg2 : FVec F S64x21x2 .f32) (main_arg3 : FVec F S64x21x2 .f32) (main_arg4 : FVec F S21x256 .f32) (main_arg5 : FVec F S21x256 .f32) : IVec S_ 1 × IVec S_ 1 × IVec S_ 1 × IVec S_ 1 :=
  let main_cst : FVec F S_ .f32 := constant S_ .f32 0xC0E00000#32
  let main_v0 : FVec F S64x21x2 .f32 := broadcastInDim S64x21x2 ![] bcast_S_S64x21x2 main_cst
  let main_v1 : IVec S64x21x2 1 := cmpf .ogt main_arg2 main_v0
  let main_cst_0 : FVec F S_ .f32 := constant S_ .f32 0x428C0000#32
  let main_v2 : FVec F S64x21x2 .f32 := broadcastInDim S64x21x2 ![] bcast_S_S64x21x2 main_cst_0
  let main_v3 : IVec S64x21x2 1 := cmpf .olt main_arg2 main_v2
  let main_v4 : IVec S64x21x2 1 := andi main_v1 main_v3
  let main_c : IVec S_ 1 := constantI S_ 1 1#1
  let main_v5 : IVec S_ 1 := (fun x v => Host.reduce IntOp.andi x v reducesTo_S64x21x2_S_d0_1_2 h_S_) main_v4 main_c
  let main_cst_1 : FVec F S_ .f32 := constant S_ .f32 0xC0E00000#32
  let main_v6 : FVec F S64x21x2 .f32 := broadcastInDim S64x21x2 ![] bcast_S_S64x21x2 main_cst_1
  let main_v7 : IVec S64x21x2 1 := cmpf .ogt main_arg3 main_v6
  let main_cst_2 : FVec F S_ .f32 := constant S_ .f32 0x428C0000#32
  let main_v8 : FVec F S64x21x2 .f32 := broadcastInDim S64x21x2 ![] bcast_S_S64x21x2 main_cst_2
  let main_v9 : IVec S64x21x2 1 := cmpf .olt main_arg3 main_v8
  let main_v10 : IVec S64x21x2 1 := andi main_v7 main_v9
  let main_c_3 : IVec S_ 1 := constantI S_ 1 1#1
  let main_v11 : IVec S_ 1 := (fun x v => Host.reduce IntOp.andi x v reducesTo_S64x21x2_S_d0_1_2 h_S_) main_v10 main_c_3
  let main_v12 : FVec F S64x256x64x64 .f32 := Host.absf main_arg0
  let main_cst_4 : FVec F S_ .f32 := constant S_ .f32 0x7F800000#32
  let main_v13 : FVec F S64x256x64x64 .f32 := broadcastInDim S64x256x64x64 ![] bcast_S_S64x256x64x64 main_cst_4
  let main_v14 : IVec S64x256x64x64 1 := cmpf .olt main_v12 main_v13
  let main_c_5 : IVec S_ 1 := constantI S_ 1 1#1
  let main_v15 : IVec S_ 1 := (fun x v => Host.reduce IntOp.andi x v reducesTo_S64x256x64x64_S_d0_1_2_3 h_S_) main_v14 main_c_5
  fn_part1 (F := F) main_arg1 main_v5 main_v11 main_v15
-- ==== Kernel.lean ====
abbrev S64x256x64x64 : Shape := ⟨4, ![64, 256, 64, 64]⟩
abbrev S64x21x2 : Shape := ⟨3, ![64, 21, 2]⟩
abbrev S21x256 : Shape := ⟨2, ![21, 256]⟩
abbrev S64x64x64x256 : Shape := ⟨4, ![64, 64, 64, 256]⟩
abbrev S64x4096x256 : Shape := ⟨3, ![64, 4096, 256]⟩
abbrev S21x2x64 : Shape := ⟨3, ![21, 2, 64]⟩
abbrev S2x21x256 : Shape := ⟨3, ![2, 21, 256]⟩
abbrev S1x4096x256 : Shape := ⟨3, ![1, 4096, 256]⟩
abbrev S1x21x256 : Shape := ⟨3, ![1, 21, 256]⟩
abbrev S1x64 : Shape := ⟨2, ![1, 64]⟩
abbrev S21x1x64 : Shape := ⟨3, ![21, 1, 64]⟩
abbrev S21x64 : Shape := ⟨2, ![21, 64]⟩
abbrev S21 : Shape := ⟨1, ![21]⟩
abbrev S21x1 : Shape := ⟨2, ![21, 1]⟩
abbrev S21x4096 : Shape := ⟨2, ![21, 4096]⟩
abbrev S4096x256 : Shape := ⟨2, ![4096, 256]⟩
abbrev S1x1 : Shape := ⟨2, ![1, 1]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 14
  | .smem => 1
  | _ => 0

abbrev bufTy : (tb : Table) → Fin (tcTables nBuf tb) → BufTy
  | .hbm, ⟨0, _⟩ => ⟨S64x256x64x64, .f32⟩
  | .hbm, ⟨1, _⟩ => ⟨S64x256x64x64, .f32⟩
  | .hbm, ⟨2, _⟩ => ⟨S64x21x2, .f32⟩
  | .hbm, ⟨3, _⟩ => ⟨S64x21x2, .f32⟩
  | .hbm, ⟨4, _⟩ => ⟨S21x256, .f32⟩
  | .hbm, ⟨5, _⟩ => ⟨S21x256, .f32⟩
  | .hbm, ⟨6, _⟩ => ⟨S64x64x64x256, .f32⟩
  | .hbm, ⟨7, _⟩ => ⟨S64x4096x256, .f32⟩
  | .hbm, ⟨8, _⟩ => ⟨S64x64x64x256, .f32⟩
  | .hbm, ⟨9, _⟩ => ⟨S64x4096x256, .f32⟩
  | .hbm, ⟨10, _⟩ => ⟨S21x2x64, .f32⟩
  | .hbm, ⟨11, _⟩ => ⟨S21x2x64, .f32⟩
  | .hbm, ⟨12, _⟩ => ⟨S2x21x256, .f32⟩
  | .hbm, ⟨13, _⟩ => ⟨S2x21x256, .f32⟩
  | .hbm, ⟨14, _⟩ => ⟨S1x1, .f32⟩
  | .hbm, ⟨15, _⟩ => ⟨S_, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S21x2x64, .f32⟩
  | .local _ .vmem, ⟨5, _⟩ => ⟨S21x2x64, .f32⟩
  | .local _ .vmem, ⟨6, _⟩ => ⟨S1x21x256, .f32⟩
  | .local _ .vmem, ⟨7, _⟩ => ⟨S1x21x256, .f32⟩
  | .local _ .vmem, ⟨8, _⟩ => ⟨S1x21x256, .f32⟩
  | .local _ .vmem, ⟨9, _⟩ => ⟨S1x21x256, .f32⟩
  | .local _ .vmem, ⟨10, _⟩ => ⟨S2x21x256, .f32⟩
  | .local _ .vmem, ⟨11, _⟩ => ⟨S2x21x256, .f32⟩
  | .local _ .vmem, ⟨12, _⟩ => ⟨S21x256, .f32⟩
  | .local _ .vmem, ⟨13, _⟩ => ⟨S21x256, .f32⟩
  | .local _ .smem, ⟨0, _⟩ => ⟨S1x1, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14

abbrev nD : Nat := 1
abbrev τ : Topo := Topo.v7x

variable {F : FTy → Type} [BitOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S21x2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S21x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x21x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x21x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := .none

abbrev stage1_0 : Fin 1 → Memref sig .tc .vmem S2x21x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x21x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S21x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S21x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "inv21" => some ((21⁻¹ : ℝ) : EReal)
  | _ => none
-- ==== ReferenceIdeal.lean ====
abbrev S64x256x64x64 : Shape := ⟨4, ![64, 256, 64, 64]⟩
abbrev S64x21x2 : Shape := ⟨3, ![64, 21, 2]⟩
abbrev S21x256 : Shape := ⟨2, ![21, 256]⟩
abbrev S64x21x1 : Shape := ⟨3, ![64, 21, 1]⟩
abbrev S64x21 : Shape := ⟨2, ![64, 21]⟩
abbrev S_ : Shape := ⟨0, ![]⟩
abbrev S64x256x65x65 : Shape := ⟨4, ![64, 256, 65, 65]⟩
abbrev S64 : Shape := ⟨1, ![64]⟩
abbrev S64x1 : Shape := ⟨2, ![64, 1]⟩
abbrev S64x21x3 : Shape := ⟨3, ![64, 21, 3]⟩
abbrev S64x21x256 : Shape := ⟨3, ![64, 21, 256]⟩
abbrev S21 : Shape := ⟨1, ![21]⟩
abbrev S21x1 : Shape := ⟨2, ![21, 1]⟩

abbrev nBuf : Space → Nat
  | .hbm => 407
  | .vmem => 0
  | .smem => 0
  | _ => 0

abbrev hbmTy0_0 (i : Nat) : BufTy := match i % 128 with
  | 0 => ⟨S64x256x64x64, .f32⟩
  | 1 => ⟨S64x256x64x64, .f32⟩
  | 2 => ⟨S64x21x2, .f32⟩
  | 3 => ⟨S64x21x2, .f32⟩
  | 4 => ⟨S21x256, .f32⟩
  | 5 => ⟨S21x256, .f32⟩
  | 6 => ⟨S64x21x1, .f32⟩
  | 7 => ⟨S64x21, .f32⟩
  | 8 => ⟨S64x21x1, .f32⟩
  | 9 => ⟨S64x21, .f32⟩
  | 10 => ⟨S_, .f32⟩
  | 11 => ⟨S64x21, .f32⟩
  | 12 => ⟨S64x21, .f32⟩
  | 13 => ⟨S_, .f32⟩
  | 14 => ⟨S64x21, .f32⟩
  | 15 => ⟨S64x21, .f32⟩
  | 16 => ⟨S64x21, .i32⟩
  | 17 => ⟨S_, .f32⟩
  | 18 => ⟨S64x21, .f32⟩
  | 19 => ⟨S64x21, .f32⟩
  | 20 => ⟨S_, .f32⟩
  | 21 => ⟨S64x21, .f32⟩
  | 22 => ⟨S64x21, .f32⟩
  | 23 => ⟨S64x21, .i32⟩
  | 24 => ⟨S_, .f32⟩
  | 25 => ⟨S64x21, .f32⟩
  | 26 => ⟨S64x21, .f32⟩
  | 27 => ⟨S_, .f32⟩
  | 28 => ⟨S64x21, .f32⟩
  | 29 => ⟨S64x21, .f32⟩
  | 30 => ⟨S64x21, .i32⟩
  | 31 => ⟨S_, .f32⟩
  | 32 => ⟨S64x21, .f32⟩
  | 33 => ⟨S64x21, .f32⟩
  | 34 => ⟨S_, .f32⟩
  | 35 => ⟨S64x21, .f32⟩
  | 36 => ⟨S64x21, .f32⟩
  | 37 => ⟨S64x21, .i32⟩
  | 38 => ⟨S64x21, .i32⟩
  | 39 => ⟨S_, .i32⟩
  | 40 => ⟨S64x21, .i32⟩
  | 41 => ⟨S64x21, .i32⟩
  | 42 => ⟨S64x21, .i32⟩
  | 43 => ⟨S_, .i32⟩
  | 44 => ⟨S64x21, .i32⟩
  | 45 => ⟨S64x21, .i32⟩
  | 46 => ⟨S64x21, .i32⟩
  | 47 => ⟨S64x21, .f32⟩
  | 48 => ⟨S_, .f32⟩
  | 49 => ⟨S_, .f32⟩
  | 50 => ⟨S64x256x64x64, .f32⟩
  | 51 => ⟨S_, .f32⟩
  | 52 => ⟨S_, .f32⟩
  | 53 => ⟨S64x256x64x64, .f32⟩
  | 54 => ⟨S_, .i32⟩
  | 55 => ⟨S_, .f32⟩
  | 56 => ⟨S64x256x65x65, .f32⟩
  | 57 => ⟨S64, .i32⟩
  | 58 => ⟨S64x1, .i32⟩
  | 59 => ⟨S_, .i32⟩
  | 60 => ⟨S64x1, .i32⟩
  | 61 => ⟨S64x1, .i1⟩
  | 62 => ⟨S_, .i32⟩
  | 63 => ⟨S64x1, .i32⟩
  | 64 => ⟨S64x1, .i32⟩
  | 65 => ⟨S64x1, .i32⟩
  | 66 => ⟨S_, .i32⟩
  | 67 => ⟨S64x21, .i32⟩
  | 68 => ⟨S64x21, .i1⟩
  | 69 => ⟨S_, .i32⟩
  | 70 => ⟨S64x21, .i32⟩
  | 71 => ⟨S64x21, .i32⟩
  | 72 => ⟨S64x21, .i32⟩
  | 73 => ⟨S_, .i32⟩
  | 74 => ⟨S64x21, .i32⟩
  | 75 => ⟨S64x21, .i1⟩
  | 76 => ⟨S_, .i32⟩
  | 77 => ⟨S64x21, .i32⟩
  | 78 => ⟨S64x21, .i32⟩
  | 79 => ⟨S64x21, .i32⟩
  | 80 => ⟨S64x21, .i32⟩
  | 81 => ⟨S64x21x1, .i32⟩
  | 82 => ⟨S64x21x1, .i32⟩
  | 83 => ⟨S64x21x1, .i32⟩
  | 84 => ⟨S64x21x3, .i32⟩
  | 85 => ⟨S64x21x256, .f32⟩
  | 86 => ⟨S_, .i32⟩
  | 87 => ⟨S64x1, .i32⟩
  | 88 => ⟨S64x1, .i1⟩
  | 89 => ⟨S_, .i32⟩
  | 90 => ⟨S64x1, .i32⟩
  | 91 => ⟨S64x1, .i32⟩
  | 92 => ⟨S64x1, .i32⟩
  | 93 => ⟨S_, .i32⟩
  | 94 => ⟨S64x21, .i32⟩
  | 95 => ⟨S64x21, .i1⟩
  | 96 => ⟨S_, .i32⟩
  | 97 => ⟨S64x21, .i32⟩
  | 98 => ⟨S64x21, .i32⟩
  | 99 => ⟨S64x21, .i32⟩
  | 100 => ⟨S_, .i32⟩
  | 101 => ⟨S64x21, .i32⟩
  | 102 => ⟨S64x21, .i1⟩
  | 103 => ⟨S_, .i32⟩
  | 104 => ⟨S64x21, .i32⟩
  | 105 => ⟨S64x21, .i32⟩
  | 106 => ⟨S64x21, .i32⟩
  | 107 => ⟨S64x21, .i32⟩
  | 108 => ⟨S64x21x1, .i32⟩
  | 109 => ⟨S64x21x1, .i32⟩
  | 110 => ⟨S64x21x1, .i32⟩
  | 111 => ⟨S64x21x3, .i32⟩
  | 112 => ⟨S64x21x256, .f32⟩
  | 113 => ⟨S64x21x256, .f32⟩
  | 114 => ⟨S_, .i32⟩
  | 115 => ⟨S64x1, .i32⟩
  | 116 => ⟨S64x1, .i1⟩
  | 117 => ⟨S_, .i32⟩
  | 118 => ⟨S64x1, .i32⟩
  | 119 => ⟨S64x1, .i32⟩
  | 120 => ⟨S64x1, .i32⟩
  | 121 => ⟨S_, .i32⟩
  | 122 => ⟨S64x21, .i32⟩
  | 123 => ⟨S64x21, .i1⟩
  | 124 => ⟨S_, .i32⟩
  | 125 => ⟨S64x21, .i32⟩
  | 126 => ⟨S64x21, .i32⟩
  | 127 => ⟨S64x21, .i32⟩
  | _ => ⟨S64x256x64x64, .f32⟩

abbrev hbmTy0_1 (i : Nat) : BufTy := match i % 128 with
  | 0 => ⟨S_, .i32⟩
  | 1 => ⟨S64x21, .i32⟩
  | 2 => ⟨S64x21, .i1⟩
  | 3 => ⟨S_, .i32⟩
  | 4 => ⟨S64x21, .i32⟩
  | 5 => ⟨S64x21, .i32⟩
  | 6 => ⟨S64x21, .i32⟩
  | 7 => ⟨S64x21, .i32⟩
  | 8 => ⟨S64x21x1, .i32⟩
  | 9 => ⟨S64x21x1, .i32⟩
  | 10 => ⟨S64x21x1, .i32⟩
  | 11 => ⟨S64x21x3, .i32⟩
  | 12 => ⟨S64x21x256, .f32⟩
  | 13 => ⟨S64x21x256, .f32⟩
  | 14 => ⟨S_, .i32⟩
  | 15 => ⟨S64x1, .i32⟩
  | 16 => ⟨S64x1, .i1⟩
  | 17 => ⟨S_, .i32⟩
  | 18 => ⟨S64x1, .i32⟩
  | 19 => ⟨S64x1, .i32⟩
  | 20 => ⟨S64x1, .i32⟩
  | 21 => ⟨S_, .i32⟩
  | 22 => ⟨S64x21, .i32⟩
  | 23 => ⟨S64x21, .i1⟩
  | 24 => ⟨S_, .i32⟩
  | 25 => ⟨S64x21, .i32⟩
  | 26 => ⟨S64x21, .i32⟩
  | 27 => ⟨S64x21, .i32⟩
  | 28 => ⟨S_, .i32⟩
  | 29 => ⟨S64x21, .i32⟩
  | 30 => ⟨S64x21, .i1⟩
  | 31 => ⟨S_, .i32⟩
  | 32 => ⟨S64x21, .i32⟩
  | 33 => ⟨S64x21, .i32⟩
  | 34 => ⟨S64x21, .i32⟩
  | 35 => ⟨S64x21, .i32⟩
  | 36 => ⟨S64x21x1, .i32⟩
  | 37 => ⟨S64x21x1, .i32⟩
  | 38 => ⟨S64x21x1, .i32⟩
  | 39 => ⟨S64x21x3, .i32⟩
  | 40 => ⟨S64x21x256, .f32⟩
  | 41 => ⟨S64x21x256, .f32⟩
  | 42 => ⟨S64x21x1, .f32⟩
  | 43 => ⟨S64x21x256, .f32⟩
  | 44 => ⟨S64x21x256, .f32⟩
  | 45 => ⟨S_, .f32⟩
  | 46 => ⟨S21x256, .f32⟩
  | 47 => ⟨S_, .f32⟩
  | 48 => ⟨S21x256, .f32⟩
  | 49 => ⟨S21x256, .f32⟩
  | 50 => ⟨S_, .f32⟩
  | 51 => ⟨S21x256, .f32⟩
  | 52 => ⟨S21x256, .f32⟩
  | 53 => ⟨S_, .f32⟩
  | 54 => ⟨S21x256, .f32⟩
  | 55 => ⟨S21x256, .f32⟩
  | 56 => ⟨S21x256, .f32⟩
  | 57 => ⟨S_, .f32⟩
  | 58 => ⟨S21, .f32⟩
  | 59 => ⟨S_, .f32⟩
  | 60 => ⟨S21, .f32⟩
  | 61 => ⟨S21, .f32⟩
  | 62 => ⟨S21x1, .f32⟩
  | 63 => ⟨S21x256, .f32⟩
  | 64 => ⟨S21x256, .f32⟩
  | 65 => ⟨S21x256, .f32⟩
  | 66 => ⟨S_, .f32⟩
  | 67 => ⟨S21, .f32⟩
  | 68 => ⟨S21x1, .f32⟩
  | 69 => ⟨S21x1, .f32⟩
  | 70 => ⟨S21x256, .f32⟩
  | 71 => ⟨S21x256, .f32⟩
  | 72 => ⟨S64x21x1, .f32⟩
  | 73 => ⟨S64x21, .f32⟩
  | 74 => ⟨S64x21x1, .f32⟩
  | 75 => ⟨S64x21, .f32⟩
  | 76 => ⟨S_, .f32⟩
  | 77 => ⟨S64x21, .f32⟩
  | 78 => ⟨S64x21, .f32⟩
  | 79 => ⟨S_, .f32⟩
  | 80 => ⟨S64x21, .f32⟩
  | 81 => ⟨S64x21, .f32⟩
  | 82 => ⟨S64x21, .i32⟩
  | 83 => ⟨S_, .f32⟩
  | 84 => ⟨S64x21, .f32⟩
  | 85 => ⟨S64x21, .f32⟩
  | 86 => ⟨S_, .f32⟩
  | 87 => ⟨S64x21, .f32⟩
  | 88 => ⟨S64x21, .f32⟩
  | 89 => ⟨S64x21, .i32⟩
  | 90 => ⟨S_, .f32⟩
  | 91 => ⟨S64x21, .f32⟩
  | 92 => ⟨S64x21, .f32⟩
  | 93 => ⟨S_, .f32⟩
  | 94 => ⟨S64x21, .f32⟩
  | 95 => ⟨S64x21, .f32⟩
  | 96 => ⟨S64x21, .i32⟩
  | 97 => ⟨S_, .f32⟩
  | 98 => ⟨S64x21, .f32⟩
  | 99 => ⟨S64x21, .f32⟩
  | 100 => ⟨S_, .f32⟩
  | 101 => ⟨S64x21, .f32⟩
  | 102 => ⟨S64x21, .f32⟩
  | 103 => ⟨S64x21, .i32⟩
  | 104 => ⟨S64x21, .i32⟩
  | 105 => ⟨S_, .i32⟩
  | 106 => ⟨S64x21, .i32⟩
  | 107 => ⟨S64x21, .i32⟩
  | 108 => ⟨S64x21, .i32⟩
  | 109 => ⟨S_, .i32⟩
  | 110 => ⟨S64x21, .i32⟩
  | 111 => ⟨S64x21, .i32⟩
  | 112 => ⟨S64x21, .i32⟩
  | 113 => ⟨S64x21, .f32⟩
  | 114 => ⟨S_, .f32⟩
  | 115 => ⟨S_, .f32⟩
  | 116 => ⟨S64x256x64x64, .f32⟩
  | 117 => ⟨S_, .f32⟩
  | 118 => ⟨S_, .f32⟩
  | 119 => ⟨S64x256x64x64, .f32⟩
  | 120 => ⟨S_, .i32⟩
  | 121 => ⟨S_, .f32⟩
  | 122 => ⟨S64x256x65x65, .f32⟩
  | 123 => ⟨S64, .i32⟩
  | 124 => ⟨S64x1, .i32⟩
  | 125 => ⟨S_, .i32⟩
  | 126 => ⟨S64x1, .i32⟩
  | 127 => ⟨S64x1, .i1⟩
  | _ => ⟨S64x256x64x64, .f32⟩

abbrev hbmTy0_2 (i : Nat) : BufTy := match i % 128 with
  | 0 => ⟨S_, .i32⟩
  | 1 => ⟨S64x1, .i32⟩
  | 2 => ⟨S64x1, .i32⟩
  | 3 => ⟨S64x1, .i32⟩
  | 4 => ⟨S_, .i32⟩
  | 5 => ⟨S64x21, .i32⟩
  | 6 => ⟨S64x21, .i1⟩
  | 7 => ⟨S_, .i32⟩
  | 8 => ⟨S64x21, .i32⟩
  | 9 => ⟨S64x21, .i32⟩
  | 10 => ⟨S64x21, .i32⟩
  | 11 => ⟨S_, .i32⟩
  | 12 => ⟨S64x21, .i32⟩
  | 13 => ⟨S64x21, .i1⟩
  | 14 => ⟨S_, .i32⟩
  | 15 => ⟨S64x21, .i32⟩
  | 16 => ⟨S64x21, .i32⟩
  | 17 => ⟨S64x21, .i32⟩
  | 18 => ⟨S64x21, .i32⟩
  | 19 => ⟨S64x21x1, .i32⟩
  | 20 => ⟨S64x21x1, .i32⟩
  | 21 => ⟨S64x21x1, .i32⟩
  | 22 => ⟨S64x21x3, .i32⟩
  | 23 => ⟨S64x21x256, .f32⟩
  | 24 => ⟨S_, .i32⟩
  | 25 => ⟨S64x1, .i32⟩
  | 26 => ⟨S64x1, .i1⟩
  | 27 => ⟨S_, .i32⟩
  | 28 => ⟨S64x1, .i32⟩
  | 29 => ⟨S64x1, .i32⟩
  | 30 => ⟨S64x1, .i32⟩
  | 31 => ⟨S_, .i32⟩
  | 32 => ⟨S64x21, .i32⟩
  | 33 => ⟨S64x21, .i1⟩
  | 34 => ⟨S_, .i32⟩
  | 35 => ⟨S64x21, .i32⟩
  | 36 => ⟨S64x21, .i32⟩
  | 37 => ⟨S64x21, .i32⟩
  | 38 => ⟨S_, .i32⟩
  | 39 => ⟨S64x21, .i32⟩
  | 40 => ⟨S64x21, .i1⟩
  | 41 => ⟨S_, .i32⟩
  | 42 => ⟨S64x21, .i32⟩
  | 43 => ⟨S64x21, .i32⟩
  | 44 => ⟨S64x21, .i32⟩
  | 45 => ⟨S64x21, .i32⟩
  | 46 => ⟨S64x21x1, .i32⟩
  | 47 => ⟨S64x21x1, .i32⟩
  | 48 => ⟨S64x21x1, .i32⟩
  | 49 => ⟨S64x21x3, .i32⟩
  | 50 => ⟨S64x21x256, .f32⟩
  | 51 => ⟨S64x21x256, .f32⟩
  | 52 => ⟨S_, .i32⟩
  | 53 => ⟨S64x1, .i32⟩
  | 54 => ⟨S64x1, .i1⟩
  | 55 => ⟨S_, .i32⟩
  | 56 => ⟨S64x1, .i32⟩
  | 57 => ⟨S64x1, .i32⟩
  | 58 => ⟨S64x1, .i32⟩
  | 59 => ⟨S_, .i32⟩
  | 60 => ⟨S64x21, .i32⟩
  | 61 => ⟨S64x21, .i1⟩
  | 62 => ⟨S_, .i32⟩
  | 63 => ⟨S64x21, .i32⟩
  | 64 => ⟨S64x21, .i32⟩
  | 65 => ⟨S64x21, .i32⟩
  | 66 => ⟨S_, .i32⟩
  | 67 => ⟨S64x21, .i32⟩
  | 68 => ⟨S64x21, .i1⟩
  | 69 => ⟨S_, .i32⟩
  | 70 => ⟨S64x21, .i32⟩
  | 71 => ⟨S64x21, .i32⟩
  | 72 => ⟨S64x21, .i32⟩
  | 73 => ⟨S64x21, .i32⟩
  | 74 => ⟨S64x21x1, .i32⟩
  | 75 => ⟨S64x21x1, .i32⟩
  | 76 => ⟨S64x21x1, .i32⟩
  | 77 => ⟨S64x21x3, .i32⟩
  | 78 => ⟨S64x21x256, .f32⟩
  | 79 => ⟨S64x21x256, .f32⟩
  | 80 => ⟨S_, .i32⟩
  | 81 => ⟨S64x1, .i32⟩
  | 82 => ⟨S64x1, .i1⟩
  | 83 => ⟨S_, .i32⟩
  | 84 => ⟨S64x1, .i32⟩
  | 85 => ⟨S64x1, .i32⟩
  | 86 => ⟨S64x1, .i32⟩
  | 87 => ⟨S_, .i32⟩
  | 88 => ⟨S64x21, .i32⟩
  | 89 => ⟨S64x21, .i1⟩
  | 90 => ⟨S_, .i32⟩
  | 91 => ⟨S64x21, .i32⟩
  | 92 => ⟨S64x21, .i32⟩
  | 93 => ⟨S64x21, .i32⟩
  | 94 => ⟨S_, .i32⟩
  | 95 => ⟨S64x21, .i32⟩
  | 96 => ⟨S64x21, .i1⟩
  | 97 => ⟨S_, .i32⟩
  | 98 => ⟨S64x21, .i32⟩
  | 99 => ⟨S64x21, .i32⟩
  | 100 => ⟨S64x21, .i32⟩
  | 101 => ⟨S64x21, .i32⟩
  | 102 => ⟨S64x21x1, .i32⟩
  | 103 => ⟨S64x21x1, .i32⟩
  | 104 => ⟨S64x21x1, .i32⟩
  | 105 => ⟨S64x21x3, .i32⟩
  | 106 => ⟨S64x21x256, .f32⟩
  | 107 => ⟨S64x21x256, .f32⟩
  | 108 => ⟨S64x21x1, .f32⟩
  | 109 => ⟨S64x21x256, .f32⟩
  | 110 => ⟨S64x21x256, .f32⟩
  | 111 => ⟨S_, .f32⟩
  | 112 => ⟨S21x256, .f32⟩
  | 113 => ⟨S_, .f32⟩
  | 114 => ⟨S21x256, .f32⟩
  | 115 => ⟨S21x256, .f32⟩
  | 116 => ⟨S_, .f32⟩
  | 117 => ⟨S21x256, .f32⟩
  | 118 => ⟨S21x256, .f32⟩
  | 119 => ⟨S_, .f32⟩
  | 120 => ⟨S21x256, .f32⟩
  | 121 => ⟨S21x256, .f32⟩
  | 122 => ⟨S21x256, .f32⟩
  | 123 => ⟨S_, .f32⟩
  | 124 => ⟨S21, .f32⟩
  | 125 => ⟨S21x1, .f32⟩
  | 126 => ⟨S21x256, .f32⟩
  | 127 => ⟨S21x256, .f32⟩
  | _ => ⟨S64x256x64x64, .f32⟩

abbrev hbmTy0_3 (i : Nat) : BufTy := match i % 128 with
  | 0 => ⟨S_, .f32⟩
  | 1 => ⟨S21x256, .f32⟩
  | 2 => ⟨S21x256, .i1⟩
  | 3 => ⟨S_, .f32⟩
  | 4 => ⟨S21x256, .f32⟩
  | 5 => ⟨S21x256, .i1⟩
  | 6 => ⟨S_, .f32⟩
  | 7 => ⟨S_, .f32⟩
  | 8 => ⟨S21x256, .f32⟩
  | 9 => ⟨S21x256, .f32⟩
  | 10 => ⟨S21x256, .f32⟩
  | 11 => ⟨S21x256, .f32⟩
  | 12 => ⟨S21x256, .f32⟩
  | 13 => ⟨S_, .f32⟩
  | 14 => ⟨S_, .f32⟩
  | 15 => ⟨S21x256, .f32⟩
  | 16 => ⟨S21x256, .f32⟩
  | 17 => ⟨S_, .f32⟩
  | 18 => ⟨S21, .f32⟩
  | 19 => ⟨S_, .f32⟩
  | 20 => ⟨S_, .f32⟩
  | 21 => ⟨S_, .f32⟩
  | 22 => ⟨S_, .f32⟩
  | _ => ⟨S64x256x64x64, .f32⟩

abbrev hbmTy (i : Nat) : BufTy := match i / 128 with
  | 0 => hbmTy0_0 i
  | 1 => hbmTy0_1 i
  | 2 => hbmTy0_2 i
  | 3 => hbmTy0_3 i
  | _ => ⟨S64x256x64x64, .f32⟩

abbrev bufTy : (tb : Table) → Fin (tcTables nBuf tb) → BufTy
  | .hbm, ⟨i, _⟩ => hbmTy i
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_call0_cst : Ref sig .tc := ⟨.hbm, 48, rfl⟩
abbrev main_call0_call0_v0 : Ref sig .tc := ⟨.hbm, 49, rfl⟩
abbrev main_v32 : Ref sig .tc := ⟨.hbm, 50, rfl⟩
abbrev main_call1_call0_cst : Ref sig .tc := ⟨.hbm, 51, rfl⟩
abbrev main_call1_call0_v0 : Ref sig .tc := ⟨.hbm, 52, rfl⟩
abbrev main_v33 : Ref sig .tc := ⟨.hbm, 53, rfl⟩
abbrev main_c_8 : Ref sig .tc := ⟨.hbm, 54, rfl⟩
abbrev main_call2_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_15 : Ref sig .tc := ⟨.hbm, 86, rfl⟩
abbrev main_v58 : Ref sig .tc := ⟨.hbm, 87, rfl⟩
abbrev main_v59 : Ref sig .tc := ⟨.hbm, 88, rfl⟩
abbrev main_c_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_17 : Ref sig .tc := ⟨.hbm, 93, rfl⟩
abbrev main_v63 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_21 : Ref sig .tc := ⟨.hbm, 114, rfl⟩
abbrev main_v80 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_23 : Ref sig .tc := ⟨.hbm, 121, rfl⟩
abbrev main_v85 : Ref sig .tc := ⟨.hbm, 122, rfl⟩
abbrev main_v86 : Ref sig .tc := ⟨.hbm, 123, rfl⟩
abbrev main_c_24 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_25 : Ref sig .tc := ⟨.hbm, 128, rfl⟩
abbrev main_v90 : Ref sig .tc := ⟨.hbm, 129, rfl⟩
abbrev main_v91 : Ref sig .tc := ⟨.hbm, 130, rfl⟩
abbrev main_c_26 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_27 : Ref sig .tc := ⟨.hbm, 142, rfl⟩
abbrev main_v102 : Ref sig .tc := ⟨.hbm, 143, rfl⟩
abbrev main_v103 : Ref sig .tc := ⟨.hbm, 144, rfl⟩
abbrev main_c_28 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c_29 : Ref sig .tc := ⟨.hbm, 149, rfl⟩
abbrev main_v107 : Ref sig .tc := ⟨.hbm, 150, rfl⟩
abbrev main_v108 : Ref sig .tc := ⟨.hbm, 151, rfl⟩
abbrev main_c_30 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_c_31 : Ref sig .tc := ⟨.hbm, 156, rfl⟩
abbrev main_v112 : Ref sig .tc := ⟨.hbm, 157, rfl⟩
abbrev main_v113 : Ref sig .tc := ⟨.hbm, 158, rfl⟩
abbrev main_c_32 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_33 : Ref sig .tc := ⟨.hbm, 173, rfl⟩
abbrev main_v127 : Ref sig .tc := ⟨.hbm, 174, rfl⟩
abbrev main_cst_34 : Ref sig .tc := ⟨.hbm, 175, rfl⟩
abbrev main_v128 : Ref sig .tc := ⟨.hbm, 176, rfl⟩
abbrev main_v129 : Ref sig .tc := ⟨.hbm, 177, rfl⟩
abbrev main_cst_35 : Ref sig .tc := ⟨.hbm, 178, rfl⟩
abbrev main_v130 : Ref sig .tc := ⟨.hbm, 179, rfl⟩
abbrev main_v131 : Ref sig .tc := ⟨.hbm, 180, rfl⟩
abbrev main_cst_36 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_call3_cst : Ref sig .tc := ⟨.hbm, 185, rfl⟩
abbrev main_call3_v0 : Ref sig .tc := ⟨.hbm, 186, rfl⟩
abbrev main_call3_cst_0 : Ref sig .tc := ⟨.hbm, 187, rfl⟩
abbrev main_call3_v1 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_v6 : Ref sig .tc := ⟨.hbm, 193, rfl⟩
abbrev main_call3_cst_1 : Ref sig .tc := ⟨.hbm, 194, rfl⟩
abbrev main_call3_v7 : Ref sig .tc := ⟨.hbm, 195, rfl⟩
abbrev main_call3_v8 : Ref sig .tc := ⟨.hbm, 196, rfl⟩
abbrev main_call3_v9 : Ref sig .tc := ⟨.hbm, 197, rfl⟩
abbrev main_call3_v10 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_cst_37 : Ref sig .tc := ⟨.hbm, 204, rfl⟩
abbrev main_v140 : Ref sig .tc := ⟨.hbm, 205, rfl⟩
abbrev main_v141 : Ref sig .tc := ⟨.hbm, 206, rfl⟩
abbrev main_cst_38 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_39 : Ref sig .tc := ⟨.hbm, 211, rfl⟩
abbrev main_v145 : Ref sig .tc := ⟨.hbm, 212, rfl⟩
abbrev main_v146 : Ref sig .tc := ⟨.hbm, 213, rfl⟩
abbrev main_cst_40 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_41 : Ref sig .tc := ⟨.hbm, 218, rfl⟩
abbrev main_v150 : Ref sig .tc := ⟨.hbm, 219, rfl⟩
abbrev main_v151 : Ref sig .tc := ⟨.hbm, 220, rfl⟩
abbrev main_cst_42 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_cst_43 : Ref sig .tc := ⟨.hbm, 225, rfl⟩
abbrev main_v155 : Ref sig .tc := ⟨.hbm, 226, rfl⟩
abbrev main_v156 : Ref sig .tc := ⟨.hbm, 227, rfl⟩
abbrev main_cst_44 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_c_45 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_c_46 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_call4_call0_cst : Ref sig .tc := ⟨.hbm, 242, rfl⟩
abbrev main_call4_call0_v0 : Ref sig .tc := ⟨.hbm, 243, rfl⟩
abbrev main_v168 : Ref sig .tc := ⟨.hbm, 244, rfl⟩
abbrev main_call5_call0_cst : Ref sig .tc := ⟨.hbm, 245, rfl⟩
abbrev main_call5_call0_v0 : Ref sig .tc := ⟨.hbm, 246, rfl⟩
abbrev main_v169 : Ref sig .tc := ⟨.hbm, 247, rfl⟩
abbrev main_c_47 : Ref sig .tc := ⟨.hbm, 248, rfl⟩
abbrev main_call6_v0 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_c_48 : Ref sig .tc := ⟨.hbm, 253, rfl⟩
abbrev main_v173 : Ref sig .tc := ⟨.hbm, 254, rfl⟩
abbrev main_v174 : Ref sig .tc := ⟨.hbm, 255, rfl⟩
abbrev main_c_49 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_c_50 : Ref sig .tc := ⟨.hbm, 260, rfl⟩
abbrev main_v178 : Ref sig .tc := ⟨.hbm, 261, rfl⟩
abbrev main_v179 : Ref sig .tc := ⟨.hbm, 262, rfl⟩
abbrev main_c_51 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_c_52 : Ref sig .tc := ⟨.hbm, 267, rfl⟩
abbrev main_v183 : Ref sig .tc := ⟨.hbm, 268, rfl⟩
abbrev main_v184 : Ref sig .tc := ⟨.hbm, 269, rfl⟩
abbrev main_c_53 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_c_54 : Ref sig .tc := ⟨.hbm, 280, rfl⟩
abbrev main_v194 : Ref sig .tc := ⟨.hbm, 281, rfl⟩
abbrev main_v195 : Ref sig .tc := ⟨.hbm, 282, rfl⟩
abbrev main_c_55 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_c_56 : Ref sig .tc := ⟨.hbm, 287, rfl⟩
abbrev main_v199 : Ref sig .tc := ⟨.hbm, 288, rfl⟩
abbrev main_v200 : Ref sig .tc := ⟨.hbm, 289, rfl⟩
abbrev main_c_57 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_c_58 : Ref sig .tc := ⟨.hbm, 294, rfl⟩
abbrev main_v204 : Ref sig .tc := ⟨.hbm, 295, rfl⟩
abbrev main_v205 : Ref sig .tc := ⟨.hbm, 296, rfl⟩
abbrev main_c_59 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_c_60 : Ref sig .tc := ⟨.hbm, 308, rfl⟩
abbrev main_v216 : Ref sig .tc := ⟨.hbm, 309, rfl⟩
abbrev main_v217 : Ref sig .tc := ⟨.hbm, 310, rfl⟩
abbrev main_c_61 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_c_62 : Ref sig .tc := ⟨.hbm, 315, rfl⟩
abbrev main_v221 : Ref sig .tc := ⟨.hbm, 316, rfl⟩
abbrev main_v222 : Ref sig .tc := ⟨.hbm, 317, rfl⟩
abbrev main_c_63 : Ref sig .tc := ⟨.hbm, 318, rfl⟩
abbrev main_v223 : Ref sig .tc := ⟨.hbm, 319, rfl⟩
abbrev main_v224 : Ref sig .tc := ⟨.hbm, 320, rfl⟩
abbrev main_v225 : Ref sig .tc := ⟨.hbm, 321, rfl⟩
abbrev main_c_64 : Ref sig .tc := ⟨.hbm, 322, rfl⟩
abbrev main_v226 : Ref sig .tc := ⟨.hbm, 323, rfl⟩
abbrev main_v227 : Ref sig .tc := ⟨.hbm, 324, rfl⟩
abbrev main_c_65 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_c_66 : Ref sig .tc := ⟨.hbm, 336, rfl⟩
abbrev main_v238 : Ref sig .tc := ⟨.hbm, 337, rfl⟩
abbrev main_v239 : Ref sig .tc := ⟨.hbm, 338, rfl⟩
abbrev main_c_67 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_c_68 : Ref sig .tc := ⟨.hbm, 343, rfl⟩
abbrev main_v243 : Ref sig .tc := ⟨.hbm, 344, rfl⟩
abbrev main_v244 : Ref sig .tc := ⟨.hbm, 345, rfl⟩
abbrev main_c_69 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_c_70 : Ref sig .tc := ⟨.hbm, 350, rfl⟩
abbrev main_v248 : Ref sig .tc := ⟨.hbm, 351, rfl⟩
abbrev main_v249 : Ref sig .tc := ⟨.hbm, 352, rfl⟩
abbrev main_c_71 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_cst_72 : Ref sig .tc := ⟨.hbm, 367, rfl⟩
abbrev main_v263 : Ref sig .tc := ⟨.hbm, 368, rfl⟩
abbrev main_cst_73 : Ref sig .tc := ⟨.hbm, 369, rfl⟩
abbrev main_v264 : Ref sig .tc := ⟨.hbm, 370, rfl⟩
abbrev main_v265 : Ref sig .tc := ⟨.hbm, 371, rfl⟩
abbrev main_cst_74 : Ref sig .tc := ⟨.hbm, 372, rfl⟩
abbrev main_v266 : Ref sig .tc := ⟨.hbm, 373, rfl⟩
abbrev main_v267 : Ref sig .tc := ⟨.hbm, 374, rfl⟩
abbrev main_cst_75 : Ref sig .tc := ⟨.hbm, 375, rfl⟩
abbrev main_v268 : Ref sig .tc := ⟨.hbm, 376, rfl⟩
abbrev main_v269 : Ref sig .tc := ⟨.hbm, 377, rfl⟩
abbrev main_v270 : Ref sig .tc := ⟨.hbm, 378, rfl⟩
abbrev main_cst_76 : Ref sig .tc := ⟨.hbm, 379, rfl⟩
abbrev main_v271 : Ref sig .tc := ⟨.hbm, 380, rfl⟩
abbrev main_v272 : Ref sig .tc := ⟨.hbm, 381, rfl⟩
abbrev main_v273 : Ref sig .tc := ⟨.hbm, 382, rfl⟩
abbrev main_v274 : Ref sig .tc := ⟨.hbm, 383, rfl⟩
abbrev main_cst_77 : Ref sig .tc := ⟨.hbm, 384, rfl⟩
abbrev main_v275 : Ref sig .tc := ⟨.hbm, 385, rfl⟩
abbrev main_v276 : Ref sig .tc := ⟨.hbm, 386, rfl⟩
abbrev main_cst_78 : Ref sig .tc := ⟨.hbm, 387, rfl⟩
abbrev main_v277 : Ref sig .tc := ⟨.hbm, 388, rfl⟩
abbrev main_v278 : Ref sig .tc := ⟨.hbm, 389, rfl⟩
abbrev main_cst_79 : Ref sig .tc := ⟨.hbm, 390, rfl⟩
abbrev main_call7_v0 : Ref sig .tc := ⟨.hbm, 391, rfl⟩
abbrev main_call7_v1 : Ref sig .tc := ⟨.hbm, 392, rfl⟩
abbrev main_v279 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_cst_80 : Ref sig .tc := ⟨.hbm, 397, rfl⟩
abbrev main_call8_v0 : Ref sig .tc := ⟨.hbm, 398, rfl⟩
abbrev main_call8_v1 : Ref sig .tc := ⟨.hbm, 399, rfl⟩
abbrev main_v283 : Ref sig .tc := ⟨.hbm, 400, rfl⟩
abbrev main_cst_81 : Ref sig .tc := ⟨.hbm, 401, rfl⟩
abbrev main_v284 : Ref sig .tc := ⟨.hbm, 402, rfl⟩
abbrev main_cst_82 : Ref sig .tc := ⟨.hbm, 403, rfl⟩
abbrev main_v285 : Ref sig .tc := ⟨.hbm, 404, rfl⟩
abbrev main_cst_83 : Ref sig .tc := ⟨.hbm, 405, rfl⟩
abbrev main_v286 : Ref sig .tc := ⟨.hbm, 406, rfl⟩

abbrev nD : Nat := 1
abbrev τ : Topo := Topo.v7x

variable {F : FTy → Type} [FloatOps F]
-- ==== Proof.KernelRun.lean ====
/- The idealized kernel's run: it ends with its result buffer at what the last stretch leaves, its arguments as launched. -/
module

public import proofs.«01_k».proof.Proof.Gen.KernelIdeal.Frame

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last stretch's contents and the arguments as launched. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Result

end
-- ==== Proof.Maths.lean ====
/- The mathematics of one window: the two ends of a window along an axis, its sum, and the sum as four
   corners of a table of prefix sums. -/
module

public import Idealize.ShloMosaic.Adequacy
public import Idealize.ShloMosaic.Init
public import Idealize.ShloMosaic.Lib.Pointwise

@[expose] public section

set_option maxRecDepth 16384

noncomputable section

namespace Cert.Pool

open Idealize.ShloMosaic

/-- The word of a window's first row or column, from the landmark's coordinate there. -/
def lo (v : EReal) : BitVec 32 := Ideal.fptosi 32 (max (v - Ideal.ofBits .f32 0x40C00000#32) (Ideal.ofBits .f32 0x00000000#32))

/-- The word of the row or column after a window's last. -/
def hi (v : EReal) : BitVec 32 := Ideal.fptosi 32 (min (v + Ideal.ofBits .f32 0x40C00000#32) (Ideal.ofBits .f32 0x427C0000#32))

/-- The divisor of a window's sum, from the landmark's two coordinates. -/
def area (x y : EReal) : EReal := (((((hi y - lo y + 1#32) * (hi x - lo x + 1#32)).toInt : ℤ) : ℝ) : EReal)

/-- The f32 word of 6 is 6. -/
theorem lit_six : Ideal.ofBits .f32 0x40C00000#32 = ((6 : ℝ) : EReal) := by
  simp [Ideal.ofBits, Ideal.ieee, -EReal.coe_mul]; norm_num

/-- The f32 word of 63 is 63. -/
theorem lit_sixtythree : Ideal.ofBits .f32 0x427C0000#32 = ((63 : ℝ) : EReal) := by
  simp [Ideal.ofBits, Ideal.ieee, -EReal.coe_mul]; norm_num

/-- The f32 word of 0 is 0. -/
theorem lit_zero : Ideal.ofBits .f32 0x00000000#32 = ((0 : ℝ) : EReal) := by
  simp [Ideal.ofBits, Ideal.ieee]

/-- A real between 0 and 63 converts to the word of its floor. -/
theorem fptosi_floor (r : ℝ) (h0 : 0 ≤ r) (h1 : r ≤ 63) :
    ∃ a : ℕ, Ideal.fptosi 32 (r : EReal) = BitVec.ofNat 32 a ∧ (a : ℝ) ≤ r ∧ r < a + 1 ∧ a ≤ 63 := by
  have hf : ⌊r⌋₊ ≤ 63 := by
    have := (Nat.floor_le h0).trans h1
    exact_mod_cast this
  refine ⟨⌊r⌋₊, ?_, Nat.floor_le h0, Nat.lt_floor_add_one r, hf⟩
  have e : ⌊r⌋ = (⌊r⌋₊ : ℤ) := by rw [Int.natCast_floor_eq_floor h0]
  rw [Ideal.fptosi, Ideal.toIntClamped_coe, if_pos h0, e]
  have : max (-((2 ^ (32 - 1) : ℕ) : ℤ)) (min (((2 ^ (32 - 1) : ℕ) : ℤ) - 1) (⌊r⌋₊ : ℤ)) = (⌊r⌋₊ : ℤ) := by
    norm_num; omega
  rw [this, BitVec.ofInt_natCast]

/-- A real strictly between -1 and 0 converts to the zero word. -/
theorem fptosi_neg (r : ℝ) (h0 : -1 < r) (h1 : r < 0) : Ideal.fptosi 32 (r : EReal) = BitVec.ofNat 32 0 := by
  have e : ⌈r⌉ = 0 := Int.ceil_eq_iff.2 ⟨by push_cast; linarith, by push_cast; linarith⟩
  rw [Ideal.fptosi, Ideal.toIntClamped_coe, if_neg (not_le.2 h1), e]
  norm_num

/-- A landmark coordinate in the range has a window `[a, b)` with `a ≤ b ≤ 63`. -/
theorem window_ends (v : EReal) (h1 : ((-7 : ℝ) : EReal) < v) (h2 : v < ((70 : ℝ) : EReal)) :
    ∃ a b : ℕ, lo v = BitVec.ofNat 32 a ∧ hi v = BitVec.ofNat 32 b ∧ a ≤ b ∧ b ≤ 63 := by
  induction v using EReal.rec with
  | bot => exact absurd h1 (by simp)
  | top => exact absurd h2 (by simp)
  | coe r =>
    have h1' : (-7 : ℝ) < r := by exact_mod_cast h1
    have h2' : r < (70 : ℝ) := by exact_mod_cast h2
    have el : lo (r : EReal) = Ideal.fptosi 32 ((max (r - 6) 0 : ℝ) : EReal) := by
      rw [lo, lit_six, lit_zero]; norm_cast
    have eh : hi (r : EReal) = Ideal.fptosi 32 ((min (r + 6) 63 : ℝ) : EReal) := by
      rw [hi, lit_six, lit_sixtythree]; norm_cast
    rw [el, eh]
    by_cases c : r < -6
    · have m1 : max (r - 6) 0 = (0 : ℝ) := max_eq_right (by linarith)
      have m2 : min (r + 6) 63 = r + 6 := min_eq_left (by linarith)
      obtain ⟨a, ea, ha, -, -⟩ := fptosi_floor 0 le_rfl (by norm_num)
      have : a = 0 := by exact_mod_cast le_antisymm ha (Nat.cast_nonneg a)
      subst this
      refine ⟨0, 0, by rw [m1]; exact ea, by rw [m2]; exact fptosi_neg _ (by linarith) (by linarith), le_rfl, by omega⟩
    · have c' : -6 ≤ r := not_lt.1 c
      obtain ⟨b, eb, hb1, hb2, hb3⟩ := fptosi_floor (min (r + 6) 63) (le_min (by linarith) (by norm_num)) (min_le_right _ _)
      by_cases d : r ≤ 69
      · obtain ⟨a, ea, ha1, ha2, ha3⟩ := fptosi_floor (max (r - 6) 0) (le_max_right _ _) (max_le (by linarith) (by norm_num))
        refine ⟨a, b, ea, eb, ?_, hb3⟩
        have hab : (a : ℝ) < b + 1 := lt_of_le_of_lt (ha1.trans (max_le (le_min (by linarith) (by linarith))
          (le_min (by linarith) (by norm_num)))) hb2
        have : a < b + 1 := by exact_mod_cast hab
        omega
      · have d' : 69 < r := not_le.1 d
        have m1 : max (r - 6) 0 = r - 6 := max_eq_left (by linarith)
        have m2 : min (r + 6) 63 = (63 : ℝ) := min_eq_right (by linarith)
        have h0 : 0 ≤ r - 6 := by linarith
        have e : ⌊r - 6⌋ = 63 := Int.floor_eq_iff.2 ⟨by push_cast; linarith, by push_cast; linarith⟩
        have hb : b = 63 := by
          rw [m2] at hb2
          have : 63 < b + 1 := by exact_mod_cast hb2
          omega
        refine ⟨63, b, ?_, eb, by omega, hb3⟩
        rw [m1, Ideal.fptosi, Ideal.toIntClamped_coe, if_pos h0, e]
        norm_num

/-! ## The sum over a window -/

/-- The sum of `g` over the rows `[a, b)` and the columns `[c, d)`. -/
def rect (g : Fin 64 → Fin 64 → EReal) (a b c d : ℕ) : EReal :=
  ∑ h : Fin 64, ∑ w : Fin 64, if (a ≤ h.val ∧ h.val < b) ∧ (c ≤ w.val ∧ w.val < d) then g h w else 0

/-- The sum of `g` over the first `u` rows and the first `v` columns. -/
def corner (g : Fin 64 → Fin 64 → EReal) (u v : ℕ) : EReal :=
  ∑ h : Fin 64, ∑ w : Fin 64, if h.val < u ∧ w.val < v then g h w else 0

/-- A sum of real numbers is the same sum taken among the extended reals. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A sum of finite numbers chosen by a condition is finite, and is the real sum. -/
theorem coe_sum_ite (r : Fin 64 → Fin 64 → ℝ) (p : Fin 64 → Fin 64 → Prop) [∀ h w, Decidable (p h w)] :
    (∑ h : Fin 64, ∑ w : Fin 64, if p h w then ((r h w : ℝ) : EReal) else 0)
      = ((∑ h : Fin 64, ∑ w : Fin 64, if p h w then r h w else 0 : ℝ) : EReal) := by
  rw [coe_sum]
  refine Finset.sum_congr rfl fun h _ => ?_
  rw [coe_sum]
  refine Finset.sum_congr rfl fun w _ => ?_
  split_ifs <;> simp

/-- The sum over a window is the alternating sum of the table's four corners, for finite features. -/
theorem corners_eq_rect (g : Fin 64 → Fin 64 → EReal) (hg : ∀ h w, ∃ r : ℝ, g h w = (r : EReal)) {a b c d : ℕ}
    (hab : a ≤ b) (hcd : c ≤ d) :
    corner g b d - corner g a d - corner g b c + corner g a c = rect g a b c d := by
  choose r hr using hg
  obtain rfl : g = fun h w => (r h w : EReal) := funext fun h => funext fun w => hr h w
  unfold corner rect
  rw [coe_sum_ite, coe_sum_ite, coe_sum_ite, coe_sum_ite, coe_sum_ite]
  rw [← EReal.coe_sub, ← EReal.coe_sub, ← EReal.coe_add, EReal.coe_eq_coe_iff]
  rw [← Finset.sum_sub_distrib, ← Finset.sum_sub_distrib, ← Finset.sum_add_distrib]
  refine Finset.sum_congr rfl fun h _ => ?_
  rw [← Finset.sum_sub_distrib, ← Finset.sum_sub_distrib, ← Finset.sum_add_distrib]
  refine Finset.sum_congr rfl fun w _ => ?_
  by_cases h1 : h.val < a <;> by_cases h2 : h.val < b <;> by_cases h3 : w.val < c <;> by_cases h4 : w.val < d <;>
    simp [h1, h2, h3, h4] <;> omega

/-- A place of the flattened map as its row and its column. -/
def place : Fin 64 × Fin 64 ≃ Fin 4096 := finProdFinEquiv

/-- A place of the flattened map is 64 times its row plus its column. -/
theorem place_val (h w : Fin 64) : (place (h, w)).val = h.val * 64 + w.val := by
  simp [place, finProdFinEquiv]; omega

/-- The masked product over the flattened map, with its zero remainder, is the sum over the window. -/
theorem mask_sum (q : Fin 4096 → EReal) (hq : ∀ j, ∃ r : ℝ, q j = (r : EReal)) (p : Fin 4096 → Prop) [DecidablePred p]
    {a b c d : ℕ} (hp : ∀ h w : Fin 64, p (place (h, w)) ↔ (a ≤ h.val ∧ h.val < b) ∧ (c ≤ w.val ∧ w.val < d)) :
    (∑ j, (if p j then (1 : EReal) else 0) * q j) + ∑ j, (if p j then (1 : EReal) else 0) * (q j - q j)
      = rect (fun h w => q (place (h, w))) a b c d := by
  have z : ∑ j, (if p j then (1 : EReal) else 0) * (q j - q j) = 0 := by
    refine Finset.sum_eq_zero fun j _ => ?_
    obtain ⟨r, hr⟩ := hq j
    rw [hr, ← EReal.coe_sub, sub_self, EReal.coe_zero, mul_zero]
  rw [z, add_zero, ← Equiv.sum_comp place, Fintype.sum_prod_type]
  refine Finset.sum_congr rfl fun h _ => Finset.sum_congr rfl fun w _ => ?_
  by_cases e : p (place (h, w))
  · rw [if_pos e, if_pos ((hp h w).1 e), one_mul]
  · rw [if_neg e, if_neg (fun k => e ((hp h w).2 k)), zero_mul]

/-- Summing against a one-hot row picks the entry. -/
theorem pick_sum (q : Fin 64 → EReal) (b : Fin 64) : (∑ k, q k * (if k = b then (1 : EReal) else 0)) = q b := by
  rw [Finset.sum_eq_single b]
  · rw [if_pos rfl, mul_one]
  · intro k _ hk; rw [if_neg hk, mul_zero]
  · intro h; exact absurd (Finset.mem_univ b) h

/-- The batch `32 k + i`. -/
def batch (k : Fin 2) (i : Fin 32) : Fin 64 := ⟨k.val * 32 + i.val, by omega⟩

/-- A sum over the batches is the sum over the two halves. -/
theorem sum_batches (q : Fin 64 → EReal) : (∑ i, q (batch 0 i)) + ∑ i, q (batch 1 i) = ∑ b, q b := by
  rw [← Equiv.sum_comp (finProdFinEquiv (m := 2) (n := 32)), Fintype.sum_prod_type, Fin.sum_univ_two]
  congr 1 <;> refine Finset.sum_congr rfl fun i _ => congrArg q (Fin.ext ?_) <;> simp [batch, finProdFinEquiv] <;> omega

/-! ## The pooled value of one window -/

/-- A landmark coordinate whose window meets the map. -/
def InRange (v : EReal) : Prop := ((-7 : ℝ) : EReal) < v ∧ v < ((70 : ℝ) : EReal)

/-- The pooled value of the window around `(x, y)`: the sum over its rows (from `x`) and columns (from `y`), divided. -/
def pool (x y : EReal) (g : Fin 64 → Fin 64 → EReal) : EReal :=
  Ideal.div (rect g (lo x).toNat (hi x).toNat (lo y).toNat (hi y).toNat) (area x y)

/-- The word of a number up to 63 reads back as that number. -/
theorem toNat_of_eq {x : BitVec 32} {a : ℕ} (e : x = BitVec.ofNat 32 a) (h : a ≤ 63) : x.toNat = a := by
  rw [e, BitVec.toNat_ofNat]; exact Nat.mod_eq_of_lt (by omega)

/-- The mean over the batches of a value per batch: their sum times the f32 word of 1/64. -/
def mean (q : Fin 64 → EReal) : EReal := (∑ b, q b) * Ideal.ofBits .f32 0x3C800000#32

/-- The f32 word of 1/64 is 1/64. -/
theorem lit_recip64 : Ideal.ofBits .f32 0x3C800000#32 = ((1 / 64 : ℝ) : EReal) := by
  simp [Ideal.ofBits, Ideal.ieee, -EReal.coe_mul]; norm_num

/-- The f32 word of 64 is 64. -/
theorem lit_sixtyfour : Ideal.ofBits .f32 0x42800000#32 = ((64 : ℝ) : EReal) := by
  simp [Ideal.ofBits, Ideal.ieee, -EReal.coe_mul]; norm_num

/-- The f32 word of 21 is 21. -/
theorem lit_twentyone : Ideal.ofBits .f32 0x41A80000#32 = ((21 : ℝ) : EReal) := by
  simp [Ideal.ofBits, Ideal.ieee, -EReal.coe_mul]; norm_num

/-- Dividing the sum over the batches by 64 is the mean. -/
theorem div_sixtyfour (q : Fin 64 → EReal) : Ideal.div (∑ b, q b) (Ideal.ofBits .f32 0x42800000#32) = mean q := by
  rw [lit_sixtyfour, Ideal.div_coe (by norm_num), mean, lit_recip64]

end Cert.Pool

end
-- ==== Proof.Block.lean ====
/- What one grid point of the idealized kernel computes: the pooled value of its batch, added into the output. -/
module

public import Idealize.ShloMosaic.Lib.WordCmp
public import proofs.«01_k».proof.Proof.Maths
public import proofs.«01_k».proof.Proof.Gen.KernelIdeal.Skeleton

@[expose] public section

set_option maxRecDepth 16384

noncomputable section

namespace Cert.KernelIdeal.Block

open Idealize.ShloMosaic Idealize.SL.Sem
open Cert.KernelIdeal Cert.KernelIdeal.Gen Cert.Pool

/-! ## The window's mask -/

/-- Shifting a place's number right by six is its row. -/
theorem row_word (j : Fin 4096) : IntOp.shrsi .vector (BitVec.ofNat 32 j.val) 6#32 = BitVec.ofNat 32 (j.val / 64) := by
  have hj : j.val < 4096 := j.isLt
  have e : (BitVec.ofNat 32 j.val).toNat = j.val := by rw [BitVec.toNat_ofNat]; exact Nat.mod_eq_of_lt (by omega)
  have hm : (BitVec.ofNat 32 j.val).msb = false := by
    rw [BitVec.msb_eq_decide, e]; simp; omega
  unfold IntOp.shrsi
  rw [if_pos (by decide)]
  apply BitVec.eq_of_toNat_eq
  rw [BitVec.sshiftRight_eq', BitVec.sshiftRight_eq_of_msb_false hm, BitVec.toNat_ushiftRight, e,
    show (6#32 : BitVec 32).toNat = 6 from rfl, Nat.shiftRight_eq_div_pow, BitVec.toNat_ofNat,
    Nat.mod_eq_of_lt (show j.val / 64 < 2 ^ 32 by omega)]

/-- The low six bits of a place's number are its column. -/
theorem col_word (j : Fin 4096) : IntOp.andi (BitVec.ofNat 32 j.val) 63#32 = BitVec.ofNat 32 (j.val % 64) := by
  have hj : j.val < 4096 := j.isLt
  have e : (BitVec.ofNat 32 j.val).toNat = j.val := by rw [BitVec.toNat_ofNat]; exact Nat.mod_eq_of_lt (by omega)
  apply BitVec.eq_of_toNat_eq
  rw [IntOp.andi, BitVec.toNat_and, e, show (63#32 : BitVec 32).toNat = 2 ^ 6 - 1 from rfl,
    Nat.and_two_pow_sub_one_eq_mod, BitVec.toNat_ofNat, Nat.mod_eq_of_lt (show j.val % 64 < 2 ^ 32 by omega)]

/-- The mask's value at a place: one inside the window, zero outside. -/
theorem mask_value (j : Fin 4096) {a b c d : ℕ} (ha : a ≤ 63) (hb : b ≤ 63) (hc : c ≤ 63) (hd : d ≤ 63) :
    FloatOps.sitofp (F := Ideal) .f32 (BitVec.setWidth 32 (IntOp.andi (IntOp.andi (IntOp.andi
      (IntOp.cmpi .sge (IntOp.shrsi .vector (BitVec.ofNat 32 j.val) 6#32) (BitVec.ofNat 32 a))
      (IntOp.cmpi .slt (IntOp.shrsi .vector (BitVec.ofNat 32 j.val) 6#32) (BitVec.ofNat 32 b)))
      (IntOp.cmpi .sge (IntOp.andi (BitVec.ofNat 32 j.val) 63#32) (BitVec.ofNat 32 c)))
      (IntOp.cmpi .slt (IntOp.andi (BitVec.ofNat 32 j.val) 63#32) (BitVec.ofNat 32 d))))
      = if (a ≤ j.val / 64 ∧ j.val / 64 < b) ∧ (c ≤ j.val % 64 ∧ j.val % 64 < d) then (1 : EReal) else 0 := by
  have hj : j.val < 4096 := j.isLt
  have h1 : j.val / 64 < 2 ^ (32 - 1) := by omega
  have h2 : j.val % 64 < 2 ^ (32 - 1) := by omega
  rw [row_word, col_word, WordCmp.cmpi_sge_ofNat h1 (by omega), WordCmp.cmpi_slt_ofNat h1 (by omega), WordCmp.cmpi_sge_ofNat h2 (by omega),
    WordCmp.cmpi_slt_ofNat h2 (by omega)]
  show (((BitVec.setWidth 32 _).toInt : ℝ) : EReal) = _
  by_cases e1 : a ≤ j.val / 64 <;> by_cases e2 : j.val / 64 < b <;> by_cases e3 : c ≤ j.val % 64 <;>
    by_cases e4 : j.val % 64 < d <;> simp [e1, e2, e3, e4, IntOp.andi]

/-! ## The landmark's coordinates -/

/-- The one-hot row of grid point `i`: one at its batch. -/
theorem hot_at (i : grid0.Coords) (b : Fin 64) (hb : b.val = (i 0).val * 32 + (i 1).val) (k : Fin 64) :
    k0_pay4 (F := Ideal) i (ix2 0 k) = if k = b then (1 : EReal) else 0 := by
  have h0 : (i 0).val < 2 := (i 0).isLt
  have h1 : (i 1).val < 32 := (i 1).isLt
  have e : Scalar.addi (Scalar.muli (BitVec.ofNat 32 (i 0).val) 32#32) (BitVec.ofNat 32 (i 1).val)
      = BitVec.ofNat 32 b.val := by
    rw [hb]
    apply BitVec.eq_of_toNat_eq
    simp [Scalar.addi, Scalar.muli, IntOp.addi, IntOp.muli]
  pointwise [k0_pay4]
  rw [e]
  by_cases hk : k = b
  · subst hk
    show (((BitVec.setWidth 32 (IntOp.cmpi .eq (BitVec.ofNat 32 k.val) (BitVec.ofNat 32 k.val))).toInt : ℝ) : EReal) = _
    simp [IntOp.cmpi]
  · have hne : BitVec.ofNat 32 k.val ≠ BitVec.ofNat 32 b.val := by
      intro h
      have h' := congrArg BitVec.toNat h
      rw [BitVec.toNat_ofNat, BitVec.toNat_ofNat, Nat.mod_eq_of_lt (by omega), Nat.mod_eq_of_lt (by omega)] at h'
      exact hk (Fin.ext h')
    show (((BitVec.setWidth 32 (IntOp.cmpi .eq (BitVec.ofNat 32 k.val) (BitVec.ofNat 32 b.val))).toInt : ℝ) : EReal) = _
    rw [if_neg hk]
    rw [IntOp.cmpi, beq_false_of_ne hne]
    simp

/-- The first map's landmark row coordinate is the batch's. -/
theorem x_at (i : grid0.Coords) (b : Fin 64) (hb : b.val = (i 0).val * 32 + (i 1).val) (v : FVec Ideal S21x1x64 .f32) (l : Fin 21) :
    k0_pay6 (F := Ideal) i v (ix2 l 0) = v (ix3 l 0 b) := by
  pointwise [k0_pay6]
  simp only [hot_at i b hb]
  exact pick_sum (fun k => v (ix3 l 0 k)) b

/-- One map's share of a store: what the block held plus the pooled value of the window. -/
theorem pool_at (v11 : FVec Ideal S1x21x256 .f32) (vx : FVec Ideal S21x1 .f32) (dn lf : IVec S21x1 32) (y6 c63 : FVec Ideal S21x1 .f32)
    (f : FVec Ideal S1x4096x256 .f32) (l : Fin 21) (ch : Fin 256) (x y : EReal) (hx : InRange x) (hy : InRange y)
    (ex : vx (ix2 l 0) = x) (edn : dn (ix2 l 0) = lo y) (elf : lf (ix2 l 0) = lo x)
    (ey : y6 (ix2 l 0) = y + Ideal.ofBits .f32 0x40C00000#32) (ec : c63 (ix2 l 0) = Ideal.ofBits .f32 0x427C0000#32)
    (hf : ∀ j : Fin 4096, ∃ r : ℝ, f (ix3 0 j ch) = (r : EReal)) :
    k0_pay12 (F := Ideal) v11 vx dn lf y6 c63 f (ix3 0 l ch)
      = v11 (ix3 0 l ch) + pool x y (fun h w => f (ix3 0 (place (h, w)) ch)) := by
  obtain ⟨a, b, ea, eb, hab, hb⟩ := window_ends x hx.1 hx.2
  obtain ⟨c, d, ec', ed, hcd, hd⟩ := window_ends y hy.1 hy.2
  have fx : FloatOps.fptosi (F := Ideal) (φ := .f32) 32 (min (x + Ideal.ofBits .f32 0x40C00000#32) (Ideal.ofBits .f32 0x427C0000#32)) = hi x := rfl
  have fy : FloatOps.fptosi (F := Ideal) (φ := .f32) 32 (min (y + Ideal.ofBits .f32 0x40C00000#32) (Ideal.ofBits .f32 0x427C0000#32)) = hi y := rfl
  pointwise [k0_pay12, ex, edn, elf, ey, ec]
  rw [fx, fy, ea, eb, ec', ed]
  simp only [mask_value _ (hab.trans hb) hb (hcd.trans hd) hd]
  unfold Cert.Pool.pool
  rw [ea, eb, ec', ed, mask_sum (fun j => f (ix3 0 j ch)) hf
    (fun j => (a ≤ j.val / 64 ∧ j.val / 64 < b) ∧ (c ≤ j.val % 64 ∧ j.val % 64 < d)) (a := a) (b := b) (c := c) (d := d)
    (fun h w => by
      have := place_val h w
      have h1 : (place (h, w)).val / 64 = h.val := by omega
      have h2 : (place (h, w)).val % 64 = w.val := by omega
      rw [h1, h2])]
  rw [toNat_of_eq rfl (hab.trans hb), toNat_of_eq rfl hb, toNat_of_eq rfl (hcd.trans hd), toNat_of_eq rfl hd]
  have har : FloatOps.sitofp (F := Ideal) .f32 (IntOp.muli (IntOp.addi (IntOp.subi (BitVec.ofNat 32 d) (BitVec.ofNat 32 c)) 1#32)
      (IntOp.addi (IntOp.subi (BitVec.ofNat 32 b) (BitVec.ofNat 32 a)) 1#32)) = area x y := by
    unfold area
    rw [ea, eb, ec', ed]
    rfl
  rw [har]

/-- What a grid point stores for the first map: the accumulated value plus its batch's pooled value. -/
theorem first_at (i : grid0.Coords) (b : Fin 64) (hb : b.val = (i 0).val * 32 + (i 1).val) (acc : FVec Ideal S1x21x256 .f32)
    (vx vy : FVec Ideal S21x1x64 .f32) (f : FVec Ideal S1x4096x256 .f32) (l : Fin 21) (ch : Fin 256)
    (hx : InRange (vx (ix3 l 0 b))) (hy : InRange (vy (ix3 l 0 b))) (hf : ∀ j : Fin 4096, ∃ r : ℝ, f (ix3 0 j ch) = (r : EReal)) :
    k0_pay12 (F := Ideal) (k0_pay5 acc) (k0_pay6 i vx) (k0_pay8 (F := Ideal) i vy) (k0_pay9 (F := Ideal) i vx) (k0_pay10 i vy) (k0_pay11 (F := Ideal)) f
        (ix3 0 l ch)
      = acc (ix3 0 l ch) + pool (vx (ix3 l 0 b)) (vy (ix3 l 0 b)) (fun h w => f (ix3 0 (place (h, w)) ch)) := by
  have ex := x_at i b hb vx l
  have ey : k0_pay7 (F := Ideal) i vy (ix2 l 0) = vy (ix3 l 0 b) := x_at i b hb vy l
  refine (pool_at _ _ _ _ _ _ _ _ _ _ _ hx hy ex ?_ ?_ ?_ ?_ hf).trans ?_
  · show Ideal.fptosi 32 (max (k0_pay7 (F := Ideal) i vy (ix2 l 0) - _) _) = _
    rw [ey]; rfl
  · show Ideal.fptosi 32 (max (k0_pay6 (F := Ideal) i vx (ix2 l 0) - _) _) = _
    rw [ex]; rfl
  · show k0_pay7 (F := Ideal) i vy (ix2 l 0) + _ = _
    rw [ey]; rfl
  · rfl
  · pointwise [k0_pay5]

/-- The second map's value is the first map's arithmetic at its own landmarks and block. -/
theorem second_eq (i : grid0.Coords) (acc : FVec Ideal S1x21x256 .f32) (vx vy : FVec Ideal S21x1x64 .f32) (f : FVec Ideal S1x4096x256 .f32) :
    k0_pay1 (F := Ideal) (k0_pay13 acc) (k0_pay16 (F := Ideal) (k0_pay4 (F := Ideal) i) vy) (k0_pay17 (F := Ideal) (k0_pay4 (F := Ideal) i) vx)
        (k0_pay18 (F := Ideal) (k0_pay4 (F := Ideal) i) vy) (k0_pay19 (F := Ideal) (k0_pay4 (F := Ideal) i) vx)
        (iota .tc S21x4096 32 [1] iota_S21x4096_d1_w32) k0_pay20 63#32 f
      = k0_pay12 (F := Ideal) (k0_pay5 acc) (k0_pay6 i vx) (k0_pay8 (F := Ideal) i vy) (k0_pay9 (F := Ideal) i vx) (k0_pay10 i vy) (k0_pay11 (F := Ideal)) f := rfl

/-- The zero fill of the first output. -/
theorem zero_first (j : S1x21x256.Idx) : k0_pay2 (F := Ideal) j = 0 := by pointwise [k0_pay2]

/-- The zero fill of the second output. -/
theorem zero_second (j : S1x21x256.Idx) : k0_pay3 (F := Ideal) j = 0 := by pointwise [k0_pay3]

end Cert.KernelIdeal.Block

end
-- ==== Proof.Arrays.lean ====
/- What the two outputs of the first stage hold after the grid. -/
module

public import proofs.«01_k».proof.Proof.Block
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Arrays

open Cert.KernelIdeal Cert.KernelIdeal.Gen Cert.Pool

/-- Which block each window reads or writes at a grid point, and the point's two coordinates: the input maps follow the
batch element, the landmark arrays are whole, and each output follows the half of the batch. -/
theorem idx : ∀ t : Fin cfg0.N, win0_0.index t = ![t.val, 0, 0] ∧ win0_1.index t = ![t.val, 0, 0]
    ∧ win0_2.index t = ![0, 0, 0] ∧ win0_3.index t = ![0, 0, 0]
    ∧ win0_4.index t = ![t.val / 32, 0, 0] ∧ win0_5.index t = ![t.val / 32, 0, 0]
    ∧ (grid0.coords t 0).val = t.val / 32 ∧ (grid0.coords t 1).val = t.val % 32 :=
  (by decide +kernel : ∀ t : Fin grid0.N, _)

/-- The pooled value of one batch element, from the flattened maps and the landmark array. -/
def part (f : FVec Ideal S64x4096x256 .f32) (p : FVec Ideal S21x2x64 .f32) (b : Fin 64) (l : Fin 21) (ch : Fin 256) : EReal :=
  pool (p (ix3 l 0 b)) (p (ix3 l 1 b)) (fun h w => f (ix3 b (place (h, w)) ch))

/-- What an output of the first stage holds: for each half of the batch the sum of its 32 pooled values. -/
def halves (f : FVec Ideal S64x4096x256 .f32) (p : FVec Ideal S21x2x64 .f32) : FVec Ideal S2x21x256 .f32 :=
  fun j => ∑ i : Fin 32, part f p (batch (j 0) i) (j 1) (j 2)

variable (V : (c : Dev nD) → (b : Ref sig .tc) → Buf (Elt Ideal) ((c : Thread nD τ).loc b))

/-- The batch element of a grid point. -/
def point (t : Fin cfg0.N) : Fin 64 := ⟨t.val, t.isLt⟩

/-- The batch element of a grid point has the point's number. -/
theorem point_val (t : Fin cfg0.N) : (point t).val = t.val := rfl

/-- An index of an output block, by its two long coordinates. -/
theorem ix3_eta (j : S1x21x256.Idx) : j = ix3 0 (j 1) (j 2) := by
  funext a
  match a with
  | ⟨0, _⟩ => exact Subsingleton.elim (α := Fin 1) _ _
  | ⟨1, _⟩ => rfl
  | ⟨2, _⟩ => rfl

/-- Window 2 is the whole landmark array at every grid point. -/
theorem whole2 (c : Dev nD) (t : Fin cfg0.N) (l : Fin 21) (a : Fin 2) (b : Fin 64) :
    iblk0 (F := Ideal) V c 2 t (ix3 l a b) = V c main_v4 (ix3 l a b) := by
  blk_point [iblk0, idx t]

/-- The first landmark row as a grid point loads it. -/
theorem load2_0 (c : Dev nD) (t : Fin cfg0.N) (l : Fin 21) (b : Fin 64) :
    View.ld (iblk0 (F := Ideal) V c 2 t) (Rect.unit ![0, 0, 0] ![21, 1, 64] inb_S21x2x64_S21x1x64_0_0_0) (ix3 l 0 b)
      = V c main_v4 (ix3 l 0 b) := by
  refine (congrArg (iblk0 (F := Ideal) V c 2 t) (?_ : _ = ix3 l 0 b)).trans (whole2 V c t l 0 b)
  funext d
  refine Fin.ext ?_
  match d with
  | ⟨0, _⟩ => show 0 + 1 * l.val = l.val; omega
  | ⟨1, _⟩ => rfl
  | ⟨2, _⟩ => show 0 + 1 * b.val = b.val; omega

/-- The second landmark row as a grid point loads it. -/
theorem load2_1 (c : Dev nD) (t : Fin cfg0.N) (l : Fin 21) (b : Fin 64) :
    View.ld (iblk0 (F := Ideal) V c 2 t) (Rect.unit ![0, 1, 0] ![21, 1, 64] inb_S21x2x64_S21x1x64_0_1_0) (ix3 l 0 b)
      = V c main_v4 (ix3 l 1 b) := by
  refine (congrArg (iblk0 (F := Ideal) V c 2 t) (?_ : _ = ix3 l 1 b)).trans (whole2 V c t l 1 b)
  funext d
  refine Fin.ext ?_
  match d with
  | ⟨0, _⟩ => show 0 + 1 * l.val = l.val; omega
  | ⟨1, _⟩ => rfl
  | ⟨2, _⟩ => show 0 + 1 * b.val = b.val; omega

/-- The block of the first map at a grid point is its batch element. -/
theorem load0 (c : Dev nD) (t : Fin cfg0.N) (j : Fin 4096) (ch : Fin 256) :
    iblk0 (F := Ideal) V c 0 t (ix3 0 j ch) = V c main_v1 (ix3 (point t) j ch) := by
  blk_point [iblk0, idx t, point]

/-- Window 3 is the whole landmark array at every grid point. -/
theorem whole3 (c : Dev nD) (t : Fin cfg0.N) (l : Fin 21) (a : Fin 2) (b : Fin 64) :
    iblk0 (F := Ideal) V c 3 t (ix3 l a b) = V c main_v5 (ix3 l a b) := by
  blk_point [iblk0, idx t]

/-- The first landmark row of the second map as a grid point loads it. -/
theorem load3_0 (c : Dev nD) (t : Fin cfg0.N) (l : Fin 21) (b : Fin 64) :
    View.ld (iblk0 (F := Ideal) V c 3 t) (Rect.unit ![0, 0, 0] ![21, 1, 64] inb_S21x2x64_S21x1x64_0_0_0) (ix3 l 0 b)
      = V c main_v5 (ix3 l 0 b) := by
  refine (congrArg (iblk0 (F := Ideal) V c 3 t) (?_ : _ = ix3 l 0 b)).trans (whole3 V c t l 0 b)
  funext d
  refine Fin.ext ?_
  match d with
  | ⟨0, _⟩ => show 0 + 1 * l.val = l.val; omega
  | ⟨1, _⟩ => rfl
  | ⟨2, _⟩ => show 0 + 1 * b.val = b.val; omega

/-- The second landmark row of the second map as a grid point loads it. -/
theorem load3_1 (c : Dev nD) (t : Fin cfg0.N) (l : Fin 21) (b : Fin 64) :
    View.ld (iblk0 (F := Ideal) V c 3 t) (Rect.unit ![0, 1, 0] ![21, 1, 64] inb_S21x2x64_S21x1x64_0_1_0) (ix3 l 0 b)
      = V c main_v5 (ix3 l 1 b) := by
  refine (congrArg (iblk0 (F := Ideal) V c 3 t) (?_ : _ = ix3 l 1 b)).trans (whole3 V c t l 1 b)
  funext d
  refine Fin.ext ?_
  match d with
  | ⟨0, _⟩ => show 0 + 1 * l.val = l.val; omega
  | ⟨1, _⟩ => rfl
  | ⟨2, _⟩ => show 0 + 1 * b.val = b.val; omega

/-- The block of the second map at a grid point is its batch element. -/
theorem load1 (c : Dev nD) (t : Fin cfg0.N) (j : Fin 4096) (ch : Fin 256) :
    iblk0 (F := Ideal) V c 1 t (ix3 0 j ch) = V c main_v3 (ix3 (point t) j ch) := by
  blk_point [iblk0, idx t, point]

/-- The grid point's batch element from its two coordinates. -/
theorem point_coords (t : Fin cfg0.N) : (point t).val = (grid0.coords t 0).val * 32 + (grid0.coords t 1).val := by
  obtain ⟨_, _, _, _, _, _, h0, h1⟩ := idx t
  rw [h0, h1, point_val]
  omega

/-- One grid point's store, with its two landmark rows and its map block read as entries of the arrays. -/
theorem step (f : FVec Ideal S64x4096x256 .f32) (p : FVec Ideal S21x2x64 .f32) (t : Fin cfg0.N)
    (acc : FVec Ideal S1x21x256 .f32) (vx vy : FVec Ideal S21x1x64 .f32) (g : FVec Ideal S1x4096x256 .f32)
    (hp : ∀ l a b, InRange (p (ix3 l a b))) (hf : ∀ b j ch, ∃ r : ℝ, f (ix3 b j ch) = (r : EReal))
    (hx : ∀ l b, vx (ix3 l 0 b) = p (ix3 l 0 b)) (hy : ∀ l b, vy (ix3 l 0 b) = p (ix3 l 1 b))
    (hg : ∀ j ch, g (ix3 0 j ch) = f (ix3 (point t) j ch)) (j : S1x21x256.Idx) :
    k0_pay12 (F := Ideal) (k0_pay5 acc) (k0_pay6 (grid0.coords t) vx) (k0_pay8 (F := Ideal) (grid0.coords t) vy)
        (k0_pay9 (F := Ideal) (grid0.coords t) vx) (k0_pay10 (grid0.coords t) vy) (k0_pay11 (F := Ideal)) g j
      = acc j + part f p (point t) (j 1) (j 2) := by
  obtain ⟨l, ch, rfl⟩ : ∃ (l : Fin 21) (ch : Fin 256), j = ix3 0 l ch := ⟨j 1, j 2, ix3_eta j⟩
  refine (Block.first_at (grid0.coords t) (point t) (point_coords t) acc vx vy g l ch ?_ ?_ ?_).trans ?_
  · rw [hx]; exact hp _ _ _
  · rw [hy]; exact hp _ _ _
  · intro i; rw [hg]; exact hf _ _ _
  · rw [hx, hy]
    simp only [hg]
    rfl

/-- The sum over one half's grid points is what the output array holds there. -/
theorem run_sum (f : FVec Ideal S64x4096x256 .f32) (p : FVec Ideal S21x2x64 .f32) (t : Fin cfg0.N) (j : S1x21x256.Idx)
    (e : S2x21x256.Idx) (h0 : (e 0).val = t.val / 32) (h1 : (e 1).val = (j 1).val) (h2 : (e 2).val = (j 2).val) (hr : ∀ s : Fin 32, 32 * (t.val / 32) + s.val < cfg0.N) :
    ∑ s : Fin 32, part f p (point ⟨32 * (t.val / 32) + s.val, hr s⟩) (j 1) (j 2) = halves f p e := by
  unfold halves
  refine Finset.sum_congr rfl fun s _ => ?_
  have hb : point ⟨32 * (t.val / 32) + s.val, hr s⟩ = batch (e 0) s := by
    refine Fin.ext ?_
    show 32 * (t.val / 32) + s.val = (e 0).val * 32 + s.val
    rw [h0]; omega
  rw [hb, show e 1 = j 1 from Fin.ext h1, show e 2 = j 2 from Fin.ext h2]

/-- The first output after the grid. -/
theorem final4 (c : Dev nD) (hp : ∀ l a b, InRange (V c main_v4 (ix3 l a b)))
    (hf : ∀ b j ch, ∃ r : ℝ, V c main_v1 (ix3 b j ch) = (r : EReal)) :
    (dat0 (F := Ideal) V c).arrAt 4 cfg0.N = halves (V c main_v1) (V c main_v4) := by
  refine (dat0 V c).arrAt_eq_of_covers 4 _ (by decide +kernel) fun t hfl y => ?_
  blk_simp
  rw [after0_4]
  rw [Pipeline.eq_sum_fin_of_reset_step_apply_of_flush (fun n h => (outsAt0 V c n h).1) 32 (fun _ => (0 : EReal))
    (fun t j => part (V c main_v1) (V c main_v4) (point t) (j 1) (j 2))
    (fun t h j => by
      rw [outsAt0_A V c t h]
      frame_out
      exact (step (V c main_v1) (V c main_v4) t _ _ _ _ hp hf (load2_0 V c t) (load2_1 V c t) (load0 V c t) j).trans
        (by rw [Block.zero_first]))
    (fun t h j => by
      rw [outsAt0_B V c t h]
      frame_out
      exact step (V c main_v1) (V c main_v4) t _ _ _ _ hp hf (load2_0 V c t) (load2_1 V c t) (load0 V c t) j)
    t ((flush0_4 t).mp hfl) _, zero_add]
  refine run_sum _ _ t y _ ?_ ?_ ?_ _
  · blk_ext [idx t]
  · blk_ext [idx t]
  · blk_ext [idx t]

/-- The second output after the grid. -/
theorem final5 (c : Dev nD) (hp : ∀ l a b, InRange (V c main_v5 (ix3 l a b)))
    (hf : ∀ b j ch, ∃ r : ℝ, V c main_v3 (ix3 b j ch) = (r : EReal)) :
    (dat0 (F := Ideal) V c).arrAt 5 cfg0.N = halves (V c main_v3) (V c main_v5) := by
  refine (dat0 V c).arrAt_eq_of_covers 5 _ (by decide +kernel) fun t hfl y => ?_
  blk_simp
  rw [after0_5]
  rw [Pipeline.eq_sum_fin_of_reset_step_apply_of_flush (fun n h => (outsAt0 V c n h).2) 32 (fun _ => (0 : EReal))
    (fun t j => part (V c main_v3) (V c main_v5) (point t) (j 1) (j 2))
    (fun t h j => by
      rw [outsAt0_A V c t h]
      frame_out
      refine (congrFun (Block.second_eq _ _ _ _ _) j).trans ?_
      exact (step (V c main_v3) (V c main_v5) t _ _ _ _ hp hf (load3_0 V c t) (load3_1 V c t) (load1 V c t) j).trans
        (by rw [Block.zero_second]))
    (fun t h j => by
      rw [outsAt0_B V c t h]
      frame_out
      refine (congrFun (Block.second_eq _ _ _ _ _) j).trans ?_
      exact step (V c main_v3) (V c main_v5) t _ _ _ _ hp hf (load3_0 V c t) (load3_1 V c t) (load1 V c t) j)
    t ((flush0_5 t).mp hfl) _, zero_add]
  refine run_sum _ _ t y _ ?_ ?_ ?_ _
  · blk_ext [idx t]
  · blk_ext [idx t]
  · blk_ext [idx t]

end Cert.KernelIdeal.Arrays

end
-- ==== Proof.Tail.lean ====
/- The last stage of both programs as one scalar expression of the mean pooled values: the running average, the
   softmax's logarithm, the normalised second map, and their divergence. -/
module

public import proofs.«01_k».proof.Proof.Maths
public import proofs.«01_k».proof.Proof.Gen.KernelIdeal.Skeleton

@[expose] public section

set_option maxRecDepth 16384

noncomputable section

open Idealize.ShloMosaic Idealize.SL.Sem

namespace Cert.Pool

/-- The running average of a mean pooled value and the previous average. -/
def ema (m a : EReal) : EReal := Ideal.ofBits .f32 0x3F7FBE77#32 * m + Ideal.ofBits .f32 0x3A83126F#32 * a

/-- The largest entry of a row. -/
def peak (z : Fin 21 → Fin 256 → EReal) (l : Fin 21) : EReal :=
  Finset.fold max (Ideal.ofBits .f32 0xFF800000#32) (fun x => z l x) Finset.univ

/-- The logarithm of a row's softmax. -/
def logSoft (z : Fin 21 → Fin 256 → EReal) (l : Fin 21) (c : Fin 256) : EReal :=
  z l c - peak z l - Ideal.log (∑ x, Ideal.exp (z l x - peak z l))

/-- An entry's share of its row's sum. -/
def share (q : Fin 21 → Fin 256 → EReal) (l : Fin 21) (c : Fin 256) : EReal := Ideal.div (q l c) (∑ x, q l x)

/-- The divergence summed over all rows and channels. -/
def total (z q : Fin 21 → Fin 256 → EReal) : EReal :=
  ∑ l, ∑ c, if 0 < share q l c then share q l c * (Ideal.log (if 0 < share q l c then share q l c else 1) - logSoft z l c) else 0

/-- The f32 word of minus infinity is the bottom extended real. -/
theorem lit_bot : Ideal.ofBits .f32 0xFF800000#32 = (⊥ : EReal) := by
  simp [Ideal.ofBits, Ideal.ieee]

/-- Dividing by 21 is multiplying by the named constant. -/
theorem div_twentyone (x : EReal) : Ideal.div x (Ideal.ofBits .f32 0x41A80000#32) = x * ((21⁻¹ : ℝ) : EReal) := by
  rw [lit_twentyone, Ideal.div_coe (by norm_num)]
  norm_num

end Cert.Pool

namespace Cert.KernelIdeal.Tail

open Cert.KernelIdeal Cert.KernelIdeal.Gen Cert.Pool

/-- One entry of the second stage's running average of the first map, from its two halves. -/
def avg (h : FVec Ideal S2x21x256 .f32) (a : FVec Ideal S21x256 .f32) (l : Fin 21) (c : Fin 256) : EReal :=
  ema ((h (ix3 0 l c) + h (ix3 1 l c)) * Ideal.ofBits .f32 0x3C800000#32) (a (ix2 l c))

/-- The second stage's scalar from the two pairs of halves and the two running averages. -/
theorem scalar (h1 h2 : FVec Ideal S2x21x256 .f32) (a1 a2 : FVec Ideal S21x256 .f32) (v0 v2 v7 v9 : FVec Ideal S1x21x256 .f32)
    (e0 : ∀ l c, v0 (ix3 0 l c) = h1 (ix3 0 l c)) (e2 : ∀ l c, v2 (ix3 0 l c) = h1 (ix3 1 l c))
    (e7 : ∀ l c, v7 (ix3 0 l c) = h2 (ix3 0 l c)) (e9 : ∀ l c, v9 (ix3 0 l c) = h2 (ix3 1 l c)) :
    k1_pay1 (F := Ideal) (k1_pay2 (F := Ideal) v7 v9 a2) (k1_pay3 (F := Ideal) v0 v2 a1)
      = total (avg h1 a1) (avg h2 a2) * ((21⁻¹ : ℝ) : EReal) := by
  have p2 : ∀ l c, k1_pay2 (F := Ideal) v7 v9 a2 (ix2 l c) = avg h2 a2 l c := fun l c => by
    pointwise [k1_pay2]
    rw [e7, e9]; rfl
  have p3 : ∀ l c, k1_pay3 (F := Ideal) v0 v2 a1 (ix2 l c) = logSoft (avg h1 a1) l c := fun l c => by
    pointwise [k1_pay3]
    simp only [e0, e2]; rfl
  pointwise [k1_pay1]
  simp only [p2, p3]
  rfl

end Cert.KernelIdeal.Tail

end
-- ==== Proof.KernelValue.lean ====
/- What the idealized kernel leaves in its result: the second stage's scalar over the first stage's two outputs. -/
module

public import proofs.«01_k».proof.Proof.Arrays
public import proofs.«01_k».proof.Proof.Tail
public import Idealize.ShloMosaic.Lib.Claim

@[expose] public section

set_option maxRecDepth 16384

noncomputable section

open Idealize.ShloMosaic Idealize.ShloMosaic.TcCoe Idealize.SL.Sem

namespace Cert.KernelIdeal.Result

open Cert.KernelIdeal Cert.KernelIdeal.Gen Cert.Pool

variable (m : (ℓ : Loc nD τ sig) → Buf (Elt Ideal) ℓ) (ρ : Dev nD → PrngReg)

/-- The first map as the first stage reads it. -/
theorem entry1 (c : Dev nD) (b : Fin 64) (j : Fin 4096) (ch : Fin 256) :
    V1 (F := Ideal) m ρ c main_v1 (ix3 b j ch) = m ((c : Thread nD τ).loc main_arg0) (ix4 b ch ⟨j.val / 64, by omega⟩ ⟨j.val % 64, by omega⟩) := by
  show StableHlo.after hostOps0 (W0 m ρ c) (Proc.devRef .tc main_v1) (ix3 b j ch) = _
  entry_read
  show shapeCast S64x4096x256 (transpose S64x64x64x256 [0, 2, 3, 1] (m ((c : Thread nD τ).loc main_arg0)) transposes_S64x256x64x64_S64x64x64x256_0_2_3_1)
    shapeCasts_S64x64x64x256_S64x4096x256 (ix3 b j ch) = _
  pointwise

/-- The second map as the first stage reads it. -/
theorem entry3 (c : Dev nD) (b : Fin 64) (j : Fin 4096) (ch : Fin 256) :
    V1 (F := Ideal) m ρ c main_v3 (ix3 b j ch) = m ((c : Thread nD τ).loc main_arg1) (ix4 b ch ⟨j.val / 64, by omega⟩ ⟨j.val % 64, by omega⟩) := by
  show StableHlo.after hostOps0 (W0 m ρ c) (Proc.devRef .tc main_v3) (ix3 b j ch) = _
  entry_read
  show shapeCast S64x4096x256 (transpose S64x64x64x256 [0, 2, 3, 1] (m ((c : Thread nD τ).loc main_arg1)) transposes_S64x256x64x64_S64x64x64x256_0_2_3_1)
    shapeCasts_S64x64x64x256_S64x4096x256 (ix3 b j ch) = _
  pointwise

/-- The first map's landmarks as the first stage reads them. -/
theorem entry4 (c : Dev nD) (l : Fin 21) (a : Fin 2) (b : Fin 64) :
    V1 (F := Ideal) m ρ c main_v4 (ix3 l a b) = m ((c : Thread nD τ).loc main_arg2) (ix3 b l a) := by
  show StableHlo.after hostOps0 (W0 m ρ c) (Proc.devRef .tc main_v4) (ix3 l a b) = _
  entry_read
  show transpose S21x2x64 [1, 2, 0] (m ((c : Thread nD τ).loc main_arg2)) transposes_S64x21x2_S21x2x64_1_2_0 (ix3 l a b) = _
  pointwise

/-- The second map's landmarks as the first stage reads them. -/
theorem entry5 (c : Dev nD) (l : Fin 21) (a : Fin 2) (b : Fin 64) :
    V1 (F := Ideal) m ρ c main_v5 (ix3 l a b) = m ((c : Thread nD τ).loc main_arg3) (ix3 b l a) := by
  show StableHlo.after hostOps0 (W0 m ρ c) (Proc.devRef .tc main_v5) (ix3 l a b) = _
  entry_read
  show transpose S21x2x64 [1, 2, 0] (m ((c : Thread nD τ).loc main_arg3)) transposes_S64x21x2_S21x2x64_1_2_0 (ix3 l a b) = _
  pointwise

variable (V : (c : Dev nD) → (b : Ref sig .tc) → Buf (Elt Ideal) ((c : Thread nD τ).loc b))

/-- Every window of the second stage starts at the origin of its array. -/
theorem idx1 : ∀ t : Fin cfg1.N, win1_0.index t = ![0, 0, 0] ∧ win1_1.index t = ![0, 0, 0]
    ∧ win1_2.index t = ![0, 0] ∧ win1_3.index t = ![0, 0] ∧ win1_4.index t = ![0, 0] :=
  (by decide +kernel : ∀ t : Fin grid1.N, _)

/-- Window 0 is the whole of its array. -/
theorem whole1_0 (c : Dev nD) (a : Fin 2) (l : Fin 21) (ch : Fin 256) :
    iblk1 (F := Ideal) V c 0 t1_0 (ix3 a l ch) = V c main_v6_0 (ix3 a l ch) := by
  blk_point [iblk1, idx1 t1_0]

/-- Window 1 is the whole of its array. -/
theorem whole1_1 (c : Dev nD) (a : Fin 2) (l : Fin 21) (ch : Fin 256) :
    iblk1 (F := Ideal) V c 1 t1_0 (ix3 a l ch) = V c main_v6_1 (ix3 a l ch) := by
  blk_point [iblk1, idx1 t1_0]

/-- Window 2 is the whole of its array. -/
theorem whole1_2 (c : Dev nD) : iblk1 (F := Ideal) V c 2 t1_0 = V c main_arg4 := by
  funext j
  obtain ⟨l, ch, rfl⟩ : ∃ (l : Fin 21) (ch : Fin 256), j = ix2 l ch := ⟨j 0, j 1, (ix2_eta j).symm⟩
  blk_point [iblk1, idx1 t1_0]

/-- Window 3 is the whole of its array. -/
theorem whole1_3 (c : Dev nD) : iblk1 (F := Ideal) V c 3 t1_0 = V c main_arg5 := by
  funext j
  obtain ⟨l, ch, rfl⟩ : ∃ (l : Fin 21) (ch : Fin 256), j = ix2 l ch := ⟨j 0, j 1, (ix2_eta j).symm⟩
  blk_point [iblk1, idx1 t1_0]

/-- The first row of a two-row array as the second stage loads it. -/
theorem row0 (X : FVec Ideal S2x21x256 .f32) (l : Fin 21) (ch : Fin 256) :
    View.ld (Val := Elt Ideal) (e' := .f32) X (Rect.unit ![0, 0, 0] ![1, 21, 256] inb_S2x21x256_S1x21x256_0_0_0) (ix3 0 l ch) = X (ix3 0 l ch) := by
  refine congrArg X ?_
  funext d
  refine Fin.ext ?_
  match d with
  | ⟨0, _⟩ => rfl
  | ⟨1, _⟩ => show 0 + 1 * l.val = l.val; omega
  | ⟨2, _⟩ => show 0 + 1 * ch.val = ch.val; omega

/-- The second row of a two-row array as the second stage loads it. -/
theorem row1 (X : FVec Ideal S2x21x256 .f32) (l : Fin 21) (ch : Fin 256) :
    View.ld (Val := Elt Ideal) (e' := .f32) X (Rect.unit ![1, 0, 0] ![1, 21, 256] inb_S2x21x256_S1x21x256_1_0_0) (ix3 0 l ch) = X (ix3 1 l ch) := by
  refine congrArg X ?_
  funext d
  refine Fin.ext ?_
  match d with
  | ⟨0, _⟩ => rfl
  | ⟨1, _⟩ => show 0 + 1 * l.val = l.val; omega
  | ⟨2, _⟩ => show 0 + 1 * ch.val = ch.val; omega

/-- What the second stage leaves in its output. -/
theorem final1 (c : Dev nD) :
    (dat1 (F := Ideal) V c).arrAt 4 cfg1.N = fun _ => total (Tail.avg (V c main_v6_0) (V c main_arg4)) (Tail.avg (V c main_v6_1) (V c main_arg5)) * ((21⁻¹ : ℝ) : EReal) := by
  refine (dat1 V c).arrAt_eq_of_after_last 4 t1_0 (by decide +kernel) _ fun j => ?_
  blk_simp
  rw [after1_4]
  unfold outsAt1
  frame_out
  have r0 (h : (Memref.whole cc1_stg0_0).IsWhole) : View.read (Elt Ideal) (View.whole cc1_stg0_0) (h.unread (iblk1 (F := Ideal) V c 0 t1_0)) = iblk1 (F := Ideal) V c 0 t1_0 := h.read_unread _
  have r1 (h : (Memref.whole cc1_stg1_0).IsWhole) : View.read (Elt Ideal) (View.whole cc1_stg1_0) (h.unread (iblk1 (F := Ideal) V c 1 t1_0)) = iblk1 (F := Ideal) V c 1 t1_0 := h.read_unread _
  have r2 (h : (Memref.whole cc1_stg2_0).IsWhole) : View.read (Elt Ideal) (View.whole cc1_stg2_0) (h.unread (iblk1 (F := Ideal) V c 2 t1_0)) = V c main_arg4 := (h.read_unread _).trans (whole1_2 V c)
  have r3 (h : (Memref.whole cc1_stg3_0).IsWhole) : View.read (Elt Ideal) (View.whole cc1_stg3_0) (h.unread (iblk1 (F := Ideal) V c 3 t1_0)) = V c main_arg5 := (h.read_unread _).trans (whole1_3 V c)
  rw [r0, r1, r2, r3]
  refine Tail.scalar (V c main_v6_0) (V c main_v6_1) (V c main_arg4) (V c main_arg5) _ _ _ _ ?_ ?_ ?_ ?_ <;> intro l ch
  · exact (row0 _ l ch).trans (whole1_0 V c 0 l ch)
  · exact (row1 _ l ch).trans (whole1_0 V c 1 l ch)
  · exact (row0 _ l ch).trans (whole1_1 V c 0 l ch)
  · exact (row1 _ l ch).trans (whole1_1 V c 1 l ch)

end Cert.KernelIdeal.Result

end
-- ==== Proof.Equation.lean ====
/- The idealized kernel's result as a formula of its arguments: the formula the idealized reference computes. -/
module

public import proofs.«01_k».proof.Proof.KernelValue

@[expose] public section

set_option maxRecDepth 16384

noncomputable section

open Idealize.ShloMosaic Idealize.ShloMosaic.TcCoe Idealize.SL.Sem

namespace Cert.KernelIdeal.Result

open Cert.KernelIdeal Cert.KernelIdeal.Gen Cert.Pool

/-- The mean over the batch of the pooled values of the windows, mixed into the running average. -/
def avg (f : FVec Ideal S64x256x64x64 .f32) (p : FVec Ideal S64x21x2 .f32) (a : FVec Ideal S21x256 .f32) (l : Fin 21) (ch : Fin 256) : EReal :=
  ema (mean fun b => pool (p (ix3 b l 0)) (p (ix3 b l 1)) (fun h w => f (ix4 b ch h w))) (a (ix2 l ch))

/-- The two halves of the batch, added and averaged, are the mean over the batch. -/
theorem tail_avg (F : FVec Ideal S64x4096x256 .f32) (P : FVec Ideal S21x2x64 .f32) (f : FVec Ideal S64x256x64x64 .f32) (p : FVec Ideal S64x21x2 .f32)
    (a : FVec Ideal S21x256 .f32)
    (hF : ∀ (b : Fin 64) (j : Fin 4096) (ch : Fin 256), F (ix3 b j ch) = f (ix4 b ch ⟨j.val / 64, by omega⟩ ⟨j.val % 64, by omega⟩))
    (hP : ∀ l k b, P (ix3 l k b) = p (ix3 b l k)) : Tail.avg (Arrays.halves F P) a = avg f p a := by
  funext l ch
  have e (b : Fin 64) : Arrays.part F P b l ch = pool (p (ix3 b l 0)) (p (ix3 b l 1)) (fun h w => f (ix4 b ch h w)) := by
    unfold Arrays.part
    rw [hP, hP]
    congr 1
    funext h w
    rw [hF]
    have e := place_val h w
    have eh : (⟨(place (h, w)).val / 64, by omega⟩ : Fin 64) = h := Fin.ext (by show (place (h, w)).val / 64 = h.val; omega)
    have ew : (⟨(place (h, w)).val % 64, by omega⟩ : Fin 64) = w := Fin.ext (by show (place (h, w)).val % 64 = w.val; omega)
    rw [eh, ew]
  show ema (((∑ i, Arrays.part F P (batch 0 i) l ch) + ∑ i, Arrays.part F P (batch 1 i) l ch) * Ideal.ofBits .f32 0x3C800000#32) (a (ix2 l ch)) = _
  rw [sum_batches fun b => Arrays.part F P b l ch]
  simp only [e]
  rfl

variable (m : (ℓ : Loc nD τ sig) → Buf (Elt Ideal) ℓ) (ρ : Dev nD → PrngReg)

/-- The scalar of the two averages of six arrays. -/
def value (f1 f2 : FVec Ideal S64x256x64x64 .f32) (p1 p2 : FVec Ideal S64x21x2 .f32) (a1 a2 : FVec Ideal S21x256 .f32) : EReal :=
  total (avg f1 p1 a1) (avg f2 p2 a2) * ((21⁻¹ : ℝ) : EReal)

/-- The first stage's first output: the two halves' sums of pooled values of the first map. -/
theorem first_halves (c : Dev nD) (hf : ∀ j, ∃ r : ℝ, m ((c : Thread nD τ).loc main_arg0) j = (r : EReal))
    (hp : ∀ j, InRange (m ((c : Thread nD τ).loc main_arg2) j)) :
    V2 (F := Ideal) m ρ c main_v6_0 = Arrays.halves (V1 (F := Ideal) m ρ c main_v1) (V1 (F := Ideal) m ρ c main_v4) :=
  (W2_arr m ρ c 4).trans (Arrays.final4 (V1 m ρ) c (fun l k b => by rw [entry4]; exact hp _) fun b j ch => by rw [entry1]; exact hf _)

/-- The first stage's second output: the two halves' sums of pooled values of the second map. -/
theorem second_halves (c : Dev nD) (hf : ∀ j, ∃ r : ℝ, m ((c : Thread nD τ).loc main_arg1) j = (r : EReal))
    (hp : ∀ j, InRange (m ((c : Thread nD τ).loc main_arg3) j)) :
    V2 (F := Ideal) m ρ c main_v6_1 = Arrays.halves (V1 (F := Ideal) m ρ c main_v3) (V1 (F := Ideal) m ρ c main_v5) :=
  (W2_arr m ρ c 5).trans (Arrays.final5 (V1 m ρ) c (fun l k b => by rw [entry5]; exact hp _) fun b j ch => by rw [entry3]; exact hf _)

/-- The kernel's result buffer after the last stretch is the scalar of its arguments. -/
theorem result (c : Dev nD) (hf1 : ∀ j, ∃ r : ℝ, m ((c : Thread nD τ).loc main_arg0) j = (r : EReal))
    (hf2 : ∀ j, ∃ r : ℝ, m ((c : Thread nD τ).loc main_arg1) j = (r : EReal))
    (hp1 : ∀ j, InRange (m ((c : Thread nD τ).loc main_arg2) j)) (hp2 : ∀ j, InRange (m ((c : Thread nD τ).loc main_arg3) j)) :
    W4 (F := Ideal) m ρ c (Proc.devRef .tc main_v8)
      = fun _ => value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e7 : W3 (F := Ideal) m ρ c (Proc.devRef .tc main_v7) = fun _ => value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
    refine (W3_arr m ρ c 4).trans ((final1 (V2 m ρ) c).trans ?_)
    rw [first_halves m ρ c hf1 hp1, second_halves m ρ c hf2 hp2,
      show V2 (F := Ideal) m ρ c main_arg4 = m ((c : Thread nD τ).loc main_arg4) from W2_args m ρ c main_arg4 (by decide),
      show V2 (F := Ideal) m ρ c main_arg5 = m ((c : Thread nD τ).loc main_arg5) from W2_args m ρ c main_arg5 (by decide),
      tail_avg _ _ _ _ _ (entry1 m ρ c) (entry4 m ρ c), tail_avg _ _ _ _ _ (entry3 m ρ c) (entry5 m ρ c)]
    rfl
  funext j
  show StableHlo.after hostOps2 (W3 m ρ c) (Proc.devRef .tc main_v8) j = _
  entry_read
  rw [e7]
  rfl

end Cert.KernelIdeal.Result

end
-- ==== Proof.RefMap.lean ====
/- What the idealized reference computes from one feature map and its landmarks: the four corners of the integral image,
   their combination, and the pooled value. -/
module

public import proofs.«01_k».proof.Proof.Maths
public import proofs.«01_k».proof.Proof.Gen.ReferenceIdeal.Run
public import Idealize.ShloMosaic.Lib.WordCmp

@[expose] public section

set_option maxRecDepth 16384

noncomputable section

open Idealize.ShloMosaic Idealize.SL.Sem

namespace Cert.ReferenceIdeal.Map

open Cert.ReferenceIdeal Cert.ReferenceIdeal.Gen Cert.ReferenceIdeal.Value Cert.Pool

/-- A window of 64 padded low by 63 adds up the entries up to its position. -/
theorem slide (j : Fin 64) (x : Fin 64 → EReal) :
    (∑ k : Fin 64, if 63 ≤ j.val + k.val then x ⟨j.val + k.val - 63, by omega⟩ else 0) = ∑ h : Fin 64, if h.val ≤ j.val then x h else 0 := by
  rw [← Finset.sum_filter, ← Finset.sum_filter]
  refine Finset.sum_bij' (fun k _ => ⟨j.val + k.val - 63, by omega⟩) (fun h hh => ⟨h.val + 63 - j.val, ?_⟩) ?_ ?_ ?_ ?_ ?_
  · have := (Finset.mem_filter.mp hh).2; omega
  · intro k hk; have := (Finset.mem_filter.mp hk).2
    refine Finset.mem_filter.mpr ⟨Finset.mem_univ _, ?_⟩
    show j.val + k.val - 63 ≤ j.val; omega
  · intro h hh; have := (Finset.mem_filter.mp hh).2
    refine Finset.mem_filter.mpr ⟨Finset.mem_univ _, ?_⟩
    show 63 ≤ j.val + (h.val + 63 - j.val); omega
  · intro k hk; have := (Finset.mem_filter.mp hk).2
    refine Fin.ext ?_
    show j.val + k.val - 63 + 63 - j.val = k.val; omega
  · intro h hh; have := (Finset.mem_filter.mp hh).2
    refine Fin.ext ?_
    show j.val + (h.val + 63 - j.val) - 63 = h.val; omega
  · intro k _; rfl

/-- A left fold of additions over the positions of a window is their sum. -/
theorem fold_sum (n : ℕ) (g : Fin n → EReal) : (List.finRange n).foldl (fun r k => r + g k) 0 = ∑ k, g k := by
  rw [← List.foldl_map (f := g) (g := fun (r x : EReal) => r + x), ← List.sum_eq_foldl, Fin.sum_univ_def]

/-- The positions of a window one column wide are its rows. -/
def one2 : (⟨4, ![1, 1, 64, 1]⟩ : Shape).Idx ≃ Fin 64 where
  toFun i := i 2
  invFun k := ix4 0 0 k 0
  left_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv _ := rfl

/-- The positions of a window one row high are its columns. -/
def one3 : (⟨4, ![1, 1, 1, 64]⟩ : Shape).Idx ≃ Fin 64 where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

/-- The running sum down the rows. -/
theorem cum_rows (x : FVec Ideal S64x256x64x64 .f32) (init : FVec Ideal S_ .f32) (h0 : ∀ i, init i = 0) (b : Fin 64) (c : Fin 256) (u v : Fin 64) :
    Host.reduceWindowAdd ![1, 1, 64, 1] ![1, 1, 1, 1] ![0, 0, 63, 0] ![0, 0, 0, 0] x init
        reduceWindows_S64x256x64x64_S64x256x64x64_w1s1p0_0_w1s1p0_0_w64s1p63_0_w1s1p0_0 h_S_ (ix4 b c u v)
      = ∑ h : Fin 64, if h.val ≤ u.val then x (ix4 b c h v) else 0 := by
  show Host.reduceWindow (s := S64x256x64x64) (t := S64x256x64x64) (u := ⟨0, ![]⟩) (fun a b : EReal => a + b) ![1, 1, 64, 1] ![1, 1, 1, 1] ![0, 0, 63, 0] ![0, 0, 0, 0] x
    (fun _ => init (Shape.Idx.first h_S_)) reduceWindows_S64x256x64x64_S64x256x64x64_w1s1p0_0_w1s1p0_0_w64s1p63_0_w1s1p0_0 (by decide) (ix4 b c u v) = _
  unfold Host.reduceWindow
  rw [h0]
  refine (fold_sum _ _).trans ?_
  refine (Equiv.sum_comp ((one2.symm).trans (Shape.rowMajor ⟨4, ![1, 1, 64, 1]⟩)) _).symm.trans ?_
  refine Eq.trans ?_ (slide u fun k => x (ix4 b c k v))
  refine Finset.sum_congr rfl fun k _ => ?_
  have hn : (Shape.rowMajor ⟨4, ![1, 1, 64, 1]⟩).symm (((one2.symm).trans (Shape.rowMajor ⟨4, ![1, 1, 64, 1]⟩)) k) = one2.symm k :=
    Equiv.symm_apply_apply _ _
  have w0 : ((Shape.rowMajor ⟨4, ![1, 1, 64, 1]⟩).symm (((one2.symm).trans (Shape.rowMajor ⟨4, ![1, 1, 64, 1]⟩)) k) 0).val = 0 := congrArg Fin.val (congrFun hn 0)
  have w1 : ((Shape.rowMajor ⟨4, ![1, 1, 64, 1]⟩).symm (((one2.symm).trans (Shape.rowMajor ⟨4, ![1, 1, 64, 1]⟩)) k) 1).val = 0 := congrArg Fin.val (congrFun hn 1)
  have w2 : ((Shape.rowMajor ⟨4, ![1, 1, 64, 1]⟩).symm (((one2.symm).trans (Shape.rowMajor ⟨4, ![1, 1, 64, 1]⟩)) k) 2).val = k.val := congrArg Fin.val (congrFun hn 2)
  have w3 : ((Shape.rowMajor ⟨4, ![1, 1, 64, 1]⟩).symm (((one2.symm).trans (Shape.rowMajor ⟨4, ![1, 1, 64, 1]⟩)) k) 3).val = 0 := congrArg Fin.val (congrFun hn 3)
  by_cases hk : 63 ≤ u.val + k.val
  · rw [if_pos hk, dif_pos (fun a => by
    match a with
    | ⟨0, _⟩ =>
      show 0 ≤ b.val * 1 + ((Shape.rowMajor ⟨4, ![1, 1, 64, 1]⟩).symm (((one2.symm).trans (Shape.rowMajor ⟨4, ![1, 1, 64, 1]⟩)) k) 0).val ∧ b.val * 1 + ((Shape.rowMajor ⟨4, ![1, 1, 64, 1]⟩).symm (((one2.symm).trans (Shape.rowMajor ⟨4, ![1, 1, 64, 1]⟩)) k) 0).val - 0 < 64
      rw [w0]; omega
    | ⟨1, _⟩ =>
      show 0 ≤ c.val * 1 + ((Shape.rowMajor ⟨4, ![1, 1, 64, 1]⟩).symm (((one2.symm).trans (Shape.rowMajor ⟨4, ![1, 1, 64, 1]⟩)) k) 1).val ∧ c.val * 1 + ((Shape.rowMajor ⟨4, ![1, 1, 64, 1]⟩).symm (((one2.symm).trans (Shape.rowMajor ⟨4, ![1, 1, 64, 1]⟩)) k) 1).val - 0 < 256
      rw [w1]; omega
    | ⟨2, _⟩ =>
      show 63 ≤ u.val * 1 + ((Shape.rowMajor ⟨4, ![1, 1, 64, 1]⟩).symm (((one2.symm).trans (Shape.rowMajor ⟨4, ![1, 1, 64, 1]⟩)) k) 2).val ∧ u.val * 1 + ((Shape.rowMajor ⟨4, ![1, 1, 64, 1]⟩).symm (((one2.symm).trans (Shape.rowMajor ⟨4, ![1, 1, 64, 1]⟩)) k) 2).val - 63 < 64
      rw [w2]; omega
    | ⟨3, _⟩ =>
      show 0 ≤ v.val * 1 + ((Shape.rowMajor ⟨4, ![1, 1, 64, 1]⟩).symm (((one2.symm).trans (Shape.rowMajor ⟨4, ![1, 1, 64, 1]⟩)) k) 3).val ∧ v.val * 1 + ((Shape.rowMajor ⟨4, ![1, 1, 64, 1]⟩).symm (((one2.symm).trans (Shape.rowMajor ⟨4, ![1, 1, 64, 1]⟩)) k) 3).val - 0 < 64
      rw [w3]; omega
    )]
    refine congrArg x (funext fun a => Fin.ext ?_)
    match a with
    | ⟨0, _⟩ => show b.val * 1 + ((Shape.rowMajor ⟨4, ![1, 1, 64, 1]⟩).symm (((one2.symm).trans (Shape.rowMajor ⟨4, ![1, 1, 64, 1]⟩)) k) 0).val - 0 = b.val; rw [w0]; omega
    | ⟨1, _⟩ => show c.val * 1 + ((Shape.rowMajor ⟨4, ![1, 1, 64, 1]⟩).symm (((one2.symm).trans (Shape.rowMajor ⟨4, ![1, 1, 64, 1]⟩)) k) 1).val - 0 = c.val; rw [w1]; omega
    | ⟨2, _⟩ => show u.val * 1 + ((Shape.rowMajor ⟨4, ![1, 1, 64, 1]⟩).symm (((one2.symm).trans (Shape.rowMajor ⟨4, ![1, 1, 64, 1]⟩)) k) 2).val - 63 = u.val + k.val - 63; rw [w2]; omega
    | ⟨3, _⟩ => show v.val * 1 + ((Shape.rowMajor ⟨4, ![1, 1, 64, 1]⟩).symm (((one2.symm).trans (Shape.rowMajor ⟨4, ![1, 1, 64, 1]⟩)) k) 3).val - 0 = v.val; rw [w3]; omega
  · rw [if_neg hk, dif_neg (fun hin => hk (by
      have h2 := (hin ⟨2, by decide⟩).1
      change 63 ≤ u.val * 1 + ((Shape.rowMajor ⟨4, ![1, 1, 64, 1]⟩).symm (((one2.symm).trans (Shape.rowMajor ⟨4, ![1, 1, 64, 1]⟩)) k) 2).val at h2
      rw [w2] at h2; omega))]

/-- The running sum along the columns. -/
theorem cum_cols (x : FVec Ideal S64x256x64x64 .f32) (init : FVec Ideal S_ .f32) (h0 : ∀ i, init i = 0) (b : Fin 64) (c : Fin 256) (u v : Fin 64) :
    Host.reduceWindowAdd ![1, 1, 1, 64] ![1, 1, 1, 1] ![0, 0, 0, 63] ![0, 0, 0, 0] x init
        reduceWindows_S64x256x64x64_S64x256x64x64_w1s1p0_0_w1s1p0_0_w1s1p0_0_w64s1p63_0 h_S_ (ix4 b c u v)
      = ∑ w : Fin 64, if w.val ≤ v.val then x (ix4 b c u w) else 0 := by
  show Host.reduceWindow (s := S64x256x64x64) (t := S64x256x64x64) (u := ⟨0, ![]⟩) (fun a b : EReal => a + b) ![1, 1, 1, 64] ![1, 1, 1, 1] ![0, 0, 0, 63] ![0, 0, 0, 0] x
    (fun _ => init (Shape.Idx.first h_S_)) reduceWindows_S64x256x64x64_S64x256x64x64_w1s1p0_0_w1s1p0_0_w1s1p0_0_w64s1p63_0 (by decide) (ix4 b c u v) = _
  unfold Host.reduceWindow
  rw [h0]
  refine (fold_sum _ _).trans ?_
  refine (Equiv.sum_comp ((one3.symm).trans (Shape.rowMajor ⟨4, ![1, 1, 1, 64]⟩)) _).symm.trans ?_
  refine Eq.trans ?_ (slide v fun k => x (ix4 b c u k))
  refine Finset.sum_congr rfl fun k _ => ?_
  have hn : (Shape.rowMajor ⟨4, ![1, 1, 1, 64]⟩).symm (((one3.symm).trans (Shape.rowMajor ⟨4, ![1, 1, 1, 64]⟩)) k) = one3.symm k :=
    Equiv.symm_apply_apply _ _
  have w0 : ((Shape.rowMajor ⟨4, ![1, 1, 1, 64]⟩).symm (((one3.symm).trans (Shape.rowMajor ⟨4, ![1, 1, 1, 64]⟩)) k) 0).val = 0 := congrArg Fin.val (congrFun hn 0)
  have w1 : ((Shape.rowMajor ⟨4, ![1, 1, 1, 64]⟩).symm (((one3.symm).trans (Shape.rowMajor ⟨4, ![1, 1, 1, 64]⟩)) k) 1).val = 0 := congrArg Fin.val (congrFun hn 1)
  have w2 : ((Shape.rowMajor ⟨4, ![1, 1, 1, 64]⟩).symm (((one3.symm).trans (Shape.rowMajor ⟨4, ![1, 1, 1, 64]⟩)) k) 2).val = 0 := congrArg Fin.val (congrFun hn 2)
  have w3 : ((Shape.rowMajor ⟨4, ![1, 1, 1, 64]⟩).symm (((one3.symm).trans (Shape.rowMajor ⟨4, ![1, 1, 1, 64]⟩)) k) 3).val = k.val := congrArg Fin.val (congrFun hn 3)
  by_cases hk : 63 ≤ v.val + k.val
  · rw [if_pos hk, dif_pos (fun a => by
    match a with
    | ⟨0, _⟩ =>
      show 0 ≤ b.val * 1 + ((Shape.rowMajor ⟨4, ![1, 1, 1, 64]⟩).symm (((one3.symm).trans (Shape.rowMajor ⟨4, ![1, 1, 1, 64]⟩)) k) 0).val ∧ b.val * 1 + ((Shape.rowMajor ⟨4, ![1, 1, 1, 64]⟩).symm (((one3.symm).trans (Shape.rowMajor ⟨4, ![1, 1, 1, 64]⟩)) k) 0).val - 0 < 64
      rw [w0]; omega
    | ⟨1, _⟩ =>
      show 0 ≤ c.val * 1 + ((Shape.rowMajor ⟨4, ![1, 1, 1, 64]⟩).symm (((one3.symm).trans (Shape.rowMajor ⟨4, ![1, 1, 1, 64]⟩)) k) 1).val ∧ c.val * 1 + ((Shape.rowMajor ⟨4, ![1, 1, 1, 64]⟩).symm (((one3.symm).trans (Shape.rowMajor ⟨4, ![1, 1, 1, 64]⟩)) k) 1).val - 0 < 256
      rw [w1]; omega
    | ⟨2, _⟩ =>
      show 0 ≤ u.val * 1 + ((Shape.rowMajor ⟨4, ![1, 1, 1, 64]⟩).symm (((one3.symm).trans (Shape.rowMajor ⟨4, ![1, 1, 1, 64]⟩)) k) 2).val ∧ u.val * 1 + ((Shape.rowMajor ⟨4, ![1, 1, 1, 64]⟩).symm (((one3.symm).trans (Shape.rowMajor ⟨4, ![1, 1, 1, 64]⟩)) k) 2).val - 0 < 64
      rw [w2]; omega
    | ⟨3, _⟩ =>
      show 63 ≤ v.val * 1 + ((Shape.rowMajor ⟨4, ![1, 1, 1, 64]⟩).symm (((one3.symm).trans (Shape.rowMajor ⟨4, ![1, 1, 1, 64]⟩)) k) 3).val ∧ v.val * 1 + ((Shape.rowMajor ⟨4, ![1, 1, 1, 64]⟩).symm (((one3.symm).trans (Shape.rowMajor ⟨4, ![1, 1, 1, 64]⟩)) k) 3).val - 63 < 64
      rw [w3]; omega
    )]
    refine congrArg x (funext fun a => Fin.ext ?_)
    match a with
    | ⟨0, _⟩ => show b.val * 1 + ((Shape.rowMajor ⟨4, ![1, 1, 1, 64]⟩).symm (((one3.symm).trans (Shape.rowMajor ⟨4, ![1, 1, 1, 64]⟩)) k) 0).val - 0 = b.val; rw [w0]; omega
    | ⟨1, _⟩ => show c.val * 1 + ((Shape.rowMajor ⟨4, ![1, 1, 1, 64]⟩).symm (((one3.symm).trans (Shape.rowMajor ⟨4, ![1, 1, 1, 64]⟩)) k) 1).val - 0 = c.val; rw [w1]; omega
    | ⟨2, _⟩ => show u.val * 1 + ((Shape.rowMajor ⟨4, ![1, 1, 1, 64]⟩).symm (((one3.symm).trans (Shape.rowMajor ⟨4, ![1, 1, 1, 64]⟩)) k) 2).val - 0 = u.val; rw [w2]; omega
    | ⟨3, _⟩ => show v.val * 1 + ((Shape.rowMajor ⟨4, ![1, 1, 1, 64]⟩).symm (((one3.symm).trans (Shape.rowMajor ⟨4, ![1, 1, 1, 64]⟩)) k) 3).val - 63 = v.val + k.val - 63; rw [w3]; omega
  · rw [if_neg hk, dif_neg (fun hin => hk (by
      have h2 := (hin ⟨3, by decide⟩).1
      change 63 ≤ v.val * 1 + ((Shape.rowMajor ⟨4, ![1, 1, 1, 64]⟩).symm (((one3.symm).trans (Shape.rowMajor ⟨4, ![1, 1, 1, 64]⟩)) k) 3).val at h2
      rw [w3] at h2; omega))]

/-- The integral image: both running sums, with a zero row above and a zero column before. -/
def image (x : FVec Ideal S64x256x64x64 .f32) : FVec Ideal S64x256x65x65 .f32 :=
  pad S64x256x65x65 ![0, 0, 1, 1] ![0, 0, 0, 0] ![0, 0, 0, 0] (Host.reduceWindowAdd ![1, 1, 1, 64] ![1, 1, 1, 1] ![0, 0, 0, 63] ![0, 0, 0, 0] (Host.reduceWindowAdd ![1, 1, 64, 1] ![1, 1, 1, 1] ![0, 0, 63, 0] ![0, 0, 0, 0] x (broadcastInDim S_ ![] bcast_S_S_ (constant S_ .f32 0x00000000#32)) reduceWindows_S64x256x64x64_S64x256x64x64_w1s1p0_0_w1s1p0_0_w64s1p63_0_w1s1p0_0 h_S_) (broadcastInDim S_ ![] bcast_S_S_ (constant S_ .f32 0x00000000#32)) reduceWindows_S64x256x64x64_S64x256x64x64_w1s1p0_0_w1s1p0_0_w1s1p0_0_w64s1p63_0 h_S_) (sitofp .f32 (constantI S_ 32 0#32)) pads_S64x256x64x64_S64x256x65x65_000_000_100_100 h_S_

/-- The integral image at `(u, v)` is the sum over the first `u` rows and `v` columns. -/
theorem image_at (x : FVec Ideal S64x256x64x64 .f32) (b : Fin 64) (c : Fin 256) (u v : Fin 65) :
    image x (ix4 b c u v) = corner (fun h w => x (ix4 b c h w)) u.val v.val := by
  pointwise [image]
  have hz : ∀ i : S_.Idx, broadcastInDim S_ ![] bcast_S_S_ (constant (F := Ideal) S_ .f32 0x00000000#32) i = (0 : EReal) :=
    fun _ => lit_zero.trans (by simp)
  unfold corner
  by_cases hk : (1 ≤ u.val ∧ u.val - 1 < 64) ∧ 1 ≤ v.val ∧ v.val - 1 < 64
  · rw [dif_pos hk, cum_cols _ _ hz, Finset.sum_comm]
    refine Finset.sum_congr rfl fun w _ => ?_
    rw [cum_rows _ _ hz]
    by_cases hw : w.val < v.val
    · rw [if_pos (show w.val ≤ v.val - 1 by omega)]
      refine Finset.sum_congr rfl fun h _ => ?_
      by_cases hh : h.val < u.val
      · rw [if_pos (show h.val ≤ u.val - 1 by omega), if_pos ⟨hh, hw⟩]
      · rw [if_neg (show ¬ h.val ≤ u.val - 1 by omega), if_neg fun e => hh e.1]
    · rw [if_neg (show ¬ w.val ≤ v.val - 1 by omega)]
      exact (Finset.sum_eq_zero fun h _ => if_neg fun e => hw e.2).symm
  · rw [dif_neg hk]
    refine Eq.trans (?_ : _ = (0 : EReal)) (Finset.sum_eq_zero fun h _ => Finset.sum_eq_zero fun w _ => if_neg (by omega)).symm
    show (((0#32 : BitVec 32).toInt : ℝ) : EReal) = 0
    simp

/-- The start indices of a corner: the batch element, a row and a column, negative ones counted from the end. -/
def cells (r w : IVec S64x21 32) : IVec S64x21x3 32 :=
  concatenate S64x21x3 2 [⟨S64x21x1, ((broadcastInDim S64x21x1 ![0, 1] bcast_S64x21_S64x21x1_0_1 (broadcastInDim S64x21 ![0, 1] bcast_S64x1_S64x21_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0))))) : IVec S64x21x1 32)⟩, ⟨S64x21x1, ((broadcastInDim S64x21x1 ![0, 1] bcast_S64x21_S64x21x1_0_1 (select (cmpi .slt r (broadcastInDim S64x21 ![] bcast_S_S64x21 (constantI S_ 32 0#32))) (addi r (broadcastInDim S64x21 ![] bcast_S_S64x21 (constantI S_ 32 65#32))) r)) : IVec S64x21x1 32)⟩, ⟨S64x21x1, ((broadcastInDim S64x21x1 ![0, 1] bcast_S64x21_S64x21x1_0_1 (select (cmpi .slt w (broadcastInDim S64x21 ![] bcast_S_S64x21 (constantI S_ 32 0#32))) (addi w (broadcastInDim S64x21 ![] bcast_S_S64x21 (constantI S_ 32 65#32))) w)) : IVec S64x21x1 32)⟩] concatenates_S64x21x1_S64x21x1_S64x21x1_S64x21x3_d2

/-- A gather of single cells of the integral image, every channel at once. -/
abbrev look (A : FVec Ideal S64x256x65x65 .f32) (I : IVec S64x21x3 32) : FVec Ideal S64x21x256 .f32 :=
  Host.gather gather_S64x256x65x65_S64x21x3_S64x21x256_2_023_n_n_023_2_125611 A I

/-- The gather at an index whose start indices lie inside the image. -/
theorem look_at (A : FVec Ideal S64x256x65x65 .f32) (I : IVec S64x21x3 32) (b : Fin 64) (l : Fin 21) (c : Fin 256) (u v : Fin 65)
    (h0 : (I (ix3 b l 0)).toInt.toNat = b.val) (h1 : (I (ix3 b l 1)).toInt.toNat = u.val) (h2 : (I (ix3 b l 2)).toInt.toNat = v.val) :
    look A I (ix3 b l c) = A (ix4 b c u v) := by
  unfold look Host.gather
  congr 1
  funext a
  refine Fin.ext ?_
  have hs : ∀ k : Fin 3, gather_S64x256x65x65_S64x21x3_S64x21x256_2_023_n_n_023_2_125611.siIdx (ix3 b l c) k = ix3 b l k := fun k => by
    funext d
    refine Fin.ext ?_
    match d with
    | ⟨0, _⟩ => rfl
    | ⟨1, _⟩ => rfl
    | ⟨2, _⟩ => rfl
  match a with
  | ⟨0, _⟩ =>
    show min (I (gather_S64x256x65x65_S64x21x3_S64x21x256_2_023_n_n_023_2_125611.siIdx (ix3 b l c) (0 : Fin 3))).toInt.toNat 63 + 0 + 0 = b.val
    rw [hs, h0]; omega
  | ⟨1, _⟩ =>
    show 0 + 0 + c.val = c.val
    omega
  | ⟨2, _⟩ =>
    show min (I (gather_S64x256x65x65_S64x21x3_S64x21x256_2_023_n_n_023_2_125611.siIdx (ix3 b l c) (1 : Fin 3))).toInt.toNat 64 + 0 + 0 = u.val
    rw [hs, h1]; omega
  | ⟨3, _⟩ =>
    show min (I (gather_S64x256x65x65_S64x21x3_S64x21x256_2_023_n_n_023_2_125611.siIdx (ix3 b l c) (2 : Fin 3))).toInt.toNat 64 + 0 + 0 = v.val
    rw [hs, h2]; omega

/-- A small word is not negative, so it is kept, and it reads back as its number. -/
theorem kept {n : ℕ} (d : BitVec 32) (h : n ≤ 63) :
    (Scalar.select (IntOp.cmpi .slt (BitVec.ofNat 32 n) 0#32) (IntOp.addi (BitVec.ofNat 32 n) d) (BitVec.ofNat 32 n)).toInt.toNat = n := by
  have e : IntOp.cmpi .slt (BitVec.ofNat 32 n) 0#32 = 0#1 := by
    rw [show (0#32 : BitVec 32) = BitVec.ofNat 32 0 from rfl, WordCmp.cmpi_slt_ofNat (by omega) (by omega)]
    simp
  rw [e]
  show (BitVec.ofNat 32 n).toInt.toNat = n
  rw [BitVec.toInt_eq_toNat_of_lt (by rw [BitVec.toNat_ofNat]; omega), BitVec.toNat_ofNat]
  omega

/-- The start indices of a corner, read at their three coordinates. -/
theorem cells_at (r w : IVec S64x21 32) (b : Fin 64) (l : Fin 21) {u v : ℕ} (hr : r (ix2 b l) = BitVec.ofNat 32 u) (hu : u ≤ 63)
    (hw : w (ix2 b l) = BitVec.ofNat 32 v) (hv : v ≤ 63) :
    (cells r w (ix3 b l 0)).toInt.toNat = b.val ∧ (cells r w (ix3 b l 1)).toInt.toNat = u ∧ (cells r w (ix3 b l 2)).toInt.toNat = v := by
  refine ⟨?_, ?_, ?_⟩
  · pointwise [cells]
    exact kept 64#32 (by omega)
  · pointwise [cells, hr]
    exact kept 65#32 (by omega)
  · pointwise [cells, hw]
    exact kept 65#32 (by omega)

end Cert.ReferenceIdeal.Map

end
-- ==== Proof.RefValue.lean ====
/- What the idealized reference computes: its pooled values, its two running averages, and its scalar result. -/
module

public import proofs.«01_k».proof.Proof.RefMap
public import proofs.«01_k».proof.Proof.Tail

@[expose] public section

set_option maxRecDepth 16384

noncomputable section

open Idealize.ShloMosaic Idealize.ShloMosaic.TcCoe Idealize.SL.Sem

namespace Cert.ReferenceIdeal.Map

open Cert.ReferenceIdeal Cert.ReferenceIdeal.Gen Cert.ReferenceIdeal.Value Cert.Pool

/-- The landmarks' row coordinates. -/
def xs (p : FVec Ideal S64x21x2 .f32) : FVec Ideal S64x21 .f32 :=
  shapeCast _ (extractStridedSlice S64x21x1 ![0, 0, 0] p slices_S64x21x2_S64x21x1_0_0_0) shapeCasts_S64x21x1_S64x21

/-- The landmarks' column coordinates. -/
def ys (p : FVec Ideal S64x21x2 .f32) : FVec Ideal S64x21 .f32 :=
  shapeCast _ (extractStridedSlice S64x21x1 ![0, 0, 1] p slices_S64x21x2_S64x21x1_0_0_1) shapeCasts_S64x21x1_S64x21

/-- The windows' first rows or columns. -/
def low (v : FVec Ideal S64x21 .f32) : IVec S64x21 32 :=
  fptosi 32 (maximumf (subf v (broadcastInDim S64x21 ![] bcast_S_S64x21 (constant S_ .f32 0x40C00000#32))) (broadcastInDim S64x21 ![] bcast_S_S64x21 (constant S_ .f32 0x00000000#32)))

/-- The rows or columns after the windows' last. -/
def high (v : FVec Ideal S64x21 .f32) : IVec S64x21 32 :=
  fptosi 32 (minimumf (addf v (broadcastInDim S64x21 ![] bcast_S_S64x21 (constant S_ .f32 0x40C00000#32))) (broadcastInDim S64x21 ![] bcast_S_S64x21 (constant S_ .f32 0x427C0000#32)))

/-- A row coordinate is the landmark's first coordinate. -/
theorem xs_at (p : FVec Ideal S64x21x2 .f32) (b : Fin 64) (l : Fin 21) : xs p (ix2 b l) = p (ix3 b l 0) := by pointwise [xs]
/-- A column coordinate is the landmark's second coordinate. -/
theorem ys_at (p : FVec Ideal S64x21x2 .f32) (b : Fin 64) (l : Fin 21) : ys p (ix2 b l) = p (ix3 b l 1) := by pointwise [ys]
/-- The first row or column of a window, entry by entry. -/
theorem low_at (v : FVec Ideal S64x21 .f32) (j : S64x21.Idx) : low v j = lo (v j) := rfl
/-- The end row or column of a window, entry by entry. -/
theorem high_at (v : FVec Ideal S64x21 .f32) (j : S64x21.Idx) : high v j = hi (v j) := rfl

/-- The four corners of every window, combined. -/
def corners (f : FVec Ideal S64x256x64x64 .f32) (p : FVec Ideal S64x21x2 .f32) : FVec Ideal S64x21x256 .f32 :=
  addf (subf (subf (look (image f) (cells (high (xs p)) (high (ys p)))) (look (image f) (cells (low (xs p)) (high (ys p)))))
    (look (image f) (cells (high (xs p)) (low (ys p))))) (look (image f) (cells (low (xs p)) (low (ys p))))

/-- The first map's combined corners, named. -/
theorem first_corners (V0 : Valuation τ sig (Elt Ideal)) :
    res_main_v123 V0 = corners (V0 (Proc.devRef .tc main_arg0)) (V0 (Proc.devRef .tc main_arg2)) := rfl

/-- The second map's combined corners, named. -/
theorem second_corners (V0 : Valuation τ sig (Elt Ideal)) :
    res_main_v259 V0 = corners (V0 (Proc.devRef .tc main_arg1)) (V0 (Proc.devRef .tc main_arg3)) := rfl

/-- A corner read at landmark `(b, l)` and channel `c`, when its row and column are small numbers. -/
theorem corner_at (f : FVec Ideal S64x256x64x64 .f32) (r w : IVec S64x21 32) (b : Fin 64) (l : Fin 21) (c : Fin 256) {u v : ℕ}
    (hr : r (ix2 b l) = BitVec.ofNat 32 u) (hu : u ≤ 63) (hw : w (ix2 b l) = BitVec.ofNat 32 v) (hv : v ≤ 63) :
    look (image f) (cells r w) (ix3 b l c) = corner (fun h w => f (ix4 b c h w)) u v := by
  obtain ⟨e0, e1, e2⟩ := cells_at r w b l hr hu hw hv
  exact (look_at (image f) _ b l c ⟨u, by omega⟩ ⟨v, by omega⟩ e0 e1 e2).trans (image_at f b c _ _)

/-- The divisors of the windows' sums. -/
def areas (p : FVec Ideal S64x21x2 .f32) : FVec Ideal S64x21 .f32 :=
  sitofp .f32 (muli (addi (subi (high (ys p)) (low (ys p))) (broadcastInDim S64x21 ![] bcast_S_S64x21 (constantI S_ 32 1#32))) (addi (subi (high (xs p)) (low (xs p))) (broadcastInDim S64x21 ![] bcast_S_S64x21 (constantI S_ 32 1#32))))

/-- The divisor of a window from the landmark's two coordinates. -/
theorem areas_at (p : FVec Ideal S64x21x2 .f32) (b : Fin 64) (l : Fin 21) : areas p (ix2 b l) = area (p (ix3 b l 0)) (p (ix3 b l 1)) := by
  rw [← xs_at p b l, ← ys_at p b l]; rfl

/-- The running average of one map. -/
def avg (f : FVec Ideal S64x256x64x64 .f32) (p : FVec Ideal S64x21x2 .f32) (a : FVec Ideal S21x256 .f32) : FVec Ideal S21x256 .f32 :=
  addf (mulf (broadcastInDim S21x256 ![] bcast_S_S21x256 (constant S_ .f32 0x3F7FBE77#32)) (Host.divf (Host.reduceAdd (Host.divf (corners f p) (broadcastInDim S64x21x256 ![0, 1, 2] bcast_S64x21x1_S64x21x256_0_1_2 (broadcastInDim S64x21x1 ![0, 1] bcast_S64x21_S64x21x1_0_1 (areas p)))) (constant S_ .f32 0x00000000#32) reducesTo_S64x21x256_S21x256_d0 h_S_) (broadcastInDim S21x256 ![] bcast_S_S21x256 (constant S_ .f32 0x42800000#32)))) (mulf (broadcastInDim S21x256 ![] bcast_S_S21x256 (constant S_ .f32 0x3A83126F#32)) a)

/-- The first running average, named. -/
theorem first_avg (V0 : Valuation τ sig (Elt Ideal)) :
    res_main_v134 V0 = avg (V0 (Proc.devRef .tc main_arg0)) (V0 (Proc.devRef .tc main_arg2)) (V0 (Proc.devRef .tc main_arg4)) := rfl

/-- The second running average, named. -/
theorem second_avg (V0 : Valuation τ sig (Elt Ideal)) :
    res_main_v270 V0 = avg (V0 (Proc.devRef .tc main_arg1)) (V0 (Proc.devRef .tc main_arg3)) (V0 (Proc.devRef .tc main_arg5)) := rfl

/-- The combined corners are the window's sum. -/
theorem corners_at (f : FVec Ideal S64x256x64x64 .f32) (p : FVec Ideal S64x21x2 .f32) (hf : ∀ j, ∃ r : ℝ, f j = (r : EReal))
    (hp : ∀ j, InRange (p j)) (b : Fin 64) (l : Fin 21) (c : Fin 256) :
    Ideal.div (corners f p (ix3 b l c)) (areas p (ix2 b l)) = pool (p (ix3 b l 0)) (p (ix3 b l 1)) (fun h w => f (ix4 b c h w)) := by
  obtain ⟨i, j, ei, ej, hij, hj⟩ := window_ends _ (hp (ix3 b l 0)).1 (hp (ix3 b l 0)).2
  obtain ⟨m, n, em, en, hmn, hn⟩ := window_ends _ (hp (ix3 b l 1)).1 (hp (ix3 b l 1)).2
  have xl : low (xs p) (ix2 b l) = BitVec.ofNat 32 i := by rw [low_at, xs_at, ei]
  have xh : high (xs p) (ix2 b l) = BitVec.ofNat 32 j := by rw [high_at, xs_at, ej]
  have yl : low (ys p) (ix2 b l) = BitVec.ofNat 32 m := by rw [low_at, ys_at, em]
  have yh : high (ys p) (ix2 b l) = BitVec.ofNat 32 n := by rw [high_at, ys_at, en]
  unfold Cert.Pool.pool
  rw [areas_at, toNat_of_eq ei (hij.trans hj), toNat_of_eq ej hj, toNat_of_eq em (hmn.trans hn), toNat_of_eq en hn,
    ← corners_eq_rect _ (fun h w => hf _) hij hmn]
  refine congrArg (Ideal.div · _) ?_
  show look _ _ _ - look _ _ _ - look _ _ _ + look _ _ _ = _
  rw [corner_at f _ _ b l c xh hj yh hn, corner_at f _ _ b l c xl (hij.trans hj) yh hn,
    corner_at f _ _ b l c xh hj yl (hmn.trans hn), corner_at f _ _ b l c xl (hij.trans hj) yl (hmn.trans hn)]

/-- The running average at an entry: the mean over the batch of the pooled values, averaged in. -/
theorem avg_at (f : FVec Ideal S64x256x64x64 .f32) (p : FVec Ideal S64x21x2 .f32) (a : FVec Ideal S21x256 .f32)
    (hf : ∀ j, ∃ r : ℝ, f j = (r : EReal)) (hp : ∀ j, InRange (p j)) (l : Fin 21) (c : Fin 256) :
    avg f p a (ix2 l c)
      = ema (mean fun b => pool (p (ix3 b l 0)) (p (ix3 b l 1)) (fun h w => f (ix4 b c h w))) (a (ix2 l c)) := by
  rw [← div_sixtyfour]
  pointwise [avg]
  simp only [corners_at f p hf hp]
  rfl

/-- The averages less their rows' largest entries. -/
def less (z : FVec Ideal S21x256 .f32) : FVec Ideal S21x256 .f32 :=
  subf z (broadcastInDim S21x256 ![0, 1] bcast_S21x1_S21x256_0_1 (broadcastInDim S21x1 ![0] bcast_S21_S21x1_0 (maximumf (broadcastInDim S21 ![] bcast_S_S21 (constant S_ .f32 0xFF800000#32)) (Host.reduce FloatOps.maximumf z (constant S_ .f32 0xFF800000#32) reducesTo_S21x256_S21_d1 h_S_))))

/-- The first averages less their rows' largest entries, named. -/
theorem first_less (V0 : Valuation τ sig (Elt Ideal)) : res_main_call3_v5 V0 = less (res_main_v134 V0) := rfl

/-- The second averages divided by their rows' sums. -/
def shares (q : FVec Ideal S21x256 .f32) : FVec Ideal S21x256 .f32 :=
  Host.divf q (broadcastInDim S21x256 ![0, 1] bcast_S21x1_S21x256_0_1 (broadcastInDim S21x1 ![0] bcast_S21_S21x1_0 (Host.reduceAdd q (constant S_ .f32 0x00000000#32) reducesTo_S21x256_S21_d1 h_S_)))

/-- The second averages divided by their rows' sums, named. -/
theorem second_shares (V0 : Valuation τ sig (Elt Ideal)) : res_main_v274 V0 = shares (res_main_v270 V0) := rfl

/-- The reference's result from the two running averages. -/
def result (d s : FVec Ideal S21x256 .f32) : FVec Ideal S_ .f32 :=
  Host.divf (Host.reduceAdd (Host.reduceAdd (select (cmpf .ogt s (broadcastInDim S21x256 ![] bcast_S_S21x256 (constant S_ .f32 0x00000000#32))) (mulf s (subf (Host.log (select (cmpf .ogt s (broadcastInDim S21x256 ![] bcast_S_S21x256 (constant S_ .f32 0x00000000#32))) s (broadcastInDim S21x256 ![] bcast_S_S21x256 (id (constant S_ .f32 0x3F800000#32))))) (subf d (broadcastInDim S21x256 ![0, 1] bcast_S21x1_S21x256_0_1 (Host.log (broadcastInDim S21x1 ![0] bcast_S21_S21x1_0 (Host.reduceAdd (Host.exp d) (constant S_ .f32 0x00000000#32) reducesTo_S21x256_S21_d1 h_S_))))))) (broadcastInDim S21x256 ![] bcast_S_S21x256 (id (constant S_ .f32 0x00000000#32)))) (constant S_ .f32 0x00000000#32) reducesTo_S21x256_S21_d1 h_S_) (constant S_ .f32 0x00000000#32) reducesTo_S21_S_d0 h_S_) (constant S_ .f32 0x41A80000#32)

/-- An average less its row's largest entry. -/
theorem less_at (z : FVec Ideal S21x256 .f32) (l : Fin 21) (c : Fin 256) :
    less z (ix2 l c) = z (ix2 l c) - peak (fun l c => z (ix2 l c)) l := by
  pointwise [less]
  unfold peak
  rw [lit_bot]
  simp

/-- An average divided by its row's sum. -/
theorem shares_at (q : FVec Ideal S21x256 .f32) (l : Fin 21) (c : Fin 256) :
    shares q (ix2 l c) = share (fun l c => q (ix2 l c)) l c := by
  pointwise [shares]
  rfl

/-- The reference's scalar. -/
theorem result_at (z q : FVec Ideal S21x256 .f32) (j : S_.Idx) :
    result (less z) (shares q) j = total (fun l c => z (ix2 l c)) (fun l c => q (ix2 l c)) * ((21⁻¹ : ℝ) : EReal) := by
  rw [← div_twentyone]
  have e1 : (id (constant (F := Ideal) S_ .f32 0x3F800000#32) ix0 : EReal) = 1 := by pointwise [id]
  have e0 : (id (constant (F := Ideal) S_ .f32 0x00000000#32) ix0 : EReal) = 0 := by pointwise [id]
  pointwise [result]
  simp only [less_at, shares_at, e1, e0]
  rfl

end Cert.ReferenceIdeal.Map

end
-- ==== Proof.Ready.lean ====
/- What the precondition says: every landmark coordinate lies in the range, every feature is a real number. -/
module

public import proofs.«01_k».proof.Defs
public import proofs.«01_k».proof.Proof.Maths
public import Idealize.ShloMosaic.Lib.ReduceAll
public import Idealize.ShloMosaic.Lib.Claim

@[expose] public section

set_option maxRecDepth 16384

noncomputable section

open Idealize.ShloMosaic Idealize.ShloMosaic.TcCoe Idealize.SL.Sem

namespace Cert.Pre

open Cert.Pre_windows_on_finite_maps Cert.Pool

variable [Cert.Pre_windows_on_finite_maps.Facts]

/-- The f32 word of -7 is -7. -/
theorem lit_low : Ideal.ofBits .f32 0xC0E00000#32 = ((-7 : ℝ) : EReal) := by
  simp [Ideal.ofBits, Ideal.ieee, -EReal.coe_mul, -EReal.coe_neg]; norm_num

/-- The f32 word of 70 is 70. -/
theorem lit_high : Ideal.ofBits .f32 0x428C0000#32 = ((70 : ℝ) : EReal) := by
  simp [Ideal.ofBits, Ideal.ieee, -EReal.coe_mul]; norm_num

/-- The f32 word of plus infinity is the top extended real. -/
theorem lit_top : Ideal.ofBits .f32 0x7F800000#32 = (⊤ : EReal) := by
  simp [Ideal.ofBits, Ideal.ieee]

/-- A conjunction of two comparison bits that is 1 has both bits 1. -/
theorem and_bits {x y : BitVec 1} (h : IntOp.andi x y = 1#1) : x = 1#1 ∧ y = 1#1 := by
  revert x y; decide

/-- Landmarks that pass the range test lie in the range. -/
theorem range_of (p : FVec Ideal S64x21x2 .f32)
    (h : Host.reduce IntOp.andi (andi (cmpf .ogt p (broadcastInDim S64x21x2 ![] Facts.bcast_S_S64x21x2 (constant (F := Ideal) S_ .f32 0xC0E00000#32)))
        (cmpf .olt p (broadcastInDim S64x21x2 ![] Facts.bcast_S_S64x21x2 (constant (F := Ideal) S_ .f32 0x428C0000#32)))) (constantI S_ 1 1#1)
        Facts.reducesTo_S64x21x2_S_d0_1_2 Facts.h_S_ = fun _ => 1#1) (j : S64x21x2.Idx) : InRange (p j) := by
  have e := and_bits (Host.reduce_andi_eq_one _ _ _ _ (Shape.ReducesTo.drop Facts.reducesTo_S64x21x2_S_d0_1_2 j) (congrFun h _) j rfl)
  obtain ⟨e1, e2⟩ := e
  have l1 : Ideal.ofBits .f32 0xC0E00000#32 < p j := (Ideal.cmp_ogt_eq_one _ _).1 e1
  have l2 : p j < Ideal.ofBits .f32 0x428C0000#32 := (Ideal.cmp_olt_eq_one _ _).1 e2
  rw [lit_low] at l1
  rw [lit_high] at l2
  exact ⟨l1, l2⟩

/-- Features that pass the finiteness test are real numbers. -/
theorem real_of (f : FVec Ideal S64x256x64x64 .f32)
    (h : Host.reduce IntOp.andi (cmpf .olt (Host.absf f) (broadcastInDim S64x256x64x64 ![] Facts.bcast_S_S64x256x64x64 (constant (F := Ideal) S_ .f32 0x7F800000#32)))
        (constantI S_ 1 1#1) Facts.reducesTo_S64x256x64x64_S_d0_1_2_3 Facts.h_S_ = fun _ => 1#1) (j : S64x256x64x64.Idx) :
    ∃ r : ℝ, f j = (r : EReal) := by
  have e := Host.reduce_andi_eq_one _ _ _ _ (Shape.ReducesTo.drop Facts.reducesTo_S64x256x64x64_S_d0_1_2_3 j) (congrFun h _) j rfl
  have l : max (f j) (-(f j)) < Ideal.ofBits .f32 0x7F800000#32 := (Ideal.cmp_olt_eq_one _ _).1 e
  rw [lit_top] at l
  have h1 : f j ≠ ⊤ := fun k => by rw [k] at l; simp at l
  have h2 : f j ≠ ⊥ := fun k => by rw [k] at l; simp at l
  exact ⟨EReal.toReal (f j), (EReal.coe_toReal h1 h2).symm⟩

/-- The precondition of six arrays, all ones: both maps real, both landmark arrays in the range. -/
theorem all_of (f1 f2 : FVec Ideal S64x256x64x64 .f32) (p1 p2 : FVec Ideal S64x21x2 .f32) (a1 a2 : FVec Ideal S21x256 .f32)
    (h : (fn (F := Ideal) f1 f2 p1 p2 a1 a2).1 = (fun _ => 1#1) ∧ (fn (F := Ideal) f1 f2 p1 p2 a1 a2).2.1 = (fun _ => 1#1)
      ∧ (fn (F := Ideal) f1 f2 p1 p2 a1 a2).2.2.1 = (fun _ => 1#1) ∧ (fn (F := Ideal) f1 f2 p1 p2 a1 a2).2.2.2 = (fun _ => 1#1)) :
    (∀ j, ∃ r : ℝ, f1 j = (r : EReal)) ∧ (∀ j, ∃ r : ℝ, f2 j = (r : EReal)) ∧ (∀ j, InRange (p1 j)) ∧ ∀ j, InRange (p2 j) := by
  simp only [fn, fn_part1] at h
  exact ⟨real_of f1 h.2.2.1, real_of f2 h.2.2.2, range_of p1 h.1, range_of p2 h.2.1⟩

end Cert.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equation
public import proofs.«01_k».proof.Proof.RefValue
public import proofs.«01_k».proof.Proof.Ready
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The side conditions the precondition states over its shapes. -/
instance preFacts : Cert.Pre_windows_on_finite_maps.Facts where
  bcast_S_S64x21x2 := by decide
  reducesTo_S64x21x2_S_d0_1_2 := by decide
  h_S_ := by decide
  bcast_S_S64x256x64x64 := by decide
  reducesTo_S64x256x64x64_S_d0_1_2_3 := by decide

/-- The rewrites of the idealization: the two truncated halves and the named 1/21. -/
theorem preserves : Cert.preserves_Kernel_KernelIdeal :=
  ⟨IdealRules.bf16_pack.statement _,
    IdealRules.named_const.statement Cert.KernelIdeal.κ "inv21" .f32 0x3D430C31#32 ((21⁻¹ : ℝ) : EReal) rfl⟩

/-- The reference's result from contents whose argument arrays are the six given: the kernel's formula of the six. -/
theorem reference_value (V0 : Valuation Cert.ReferenceIdeal.τ Cert.ReferenceIdeal.sig (Elt Ideal))
    (f1 f2 : FVec Ideal Cert.KernelIdeal.S64x256x64x64 .f32) (p1 p2 : FVec Ideal Cert.KernelIdeal.S64x21x2 .f32) (a1 a2 : FVec Ideal Cert.KernelIdeal.S21x256 .f32)
    (e0 : V0 (Proc.devRef .tc Cert.ReferenceIdeal.main_arg0) = f1) (e1 : V0 (Proc.devRef .tc Cert.ReferenceIdeal.main_arg1) = f2)
    (e2 : V0 (Proc.devRef .tc Cert.ReferenceIdeal.main_arg2) = p1) (e3 : V0 (Proc.devRef .tc Cert.ReferenceIdeal.main_arg3) = p2)
    (e4 : V0 (Proc.devRef .tc Cert.ReferenceIdeal.main_arg4) = a1) (e5 : V0 (Proc.devRef .tc Cert.ReferenceIdeal.main_arg5) = a2)
    (hf1 : ∀ j, ∃ r : ℝ, f1 j = (r : EReal)) (hf2 : ∀ j, ∃ r : ℝ, f2 j = (r : EReal))
    (hp1 : ∀ j, Cert.Pool.InRange (p1 j)) (hp2 : ∀ j, Cert.Pool.InRange (p2 j)) :
    Cert.ReferenceIdeal.Map.result (Cert.ReferenceIdeal.Value.res_main_call3_v5 V0) (Cert.ReferenceIdeal.Value.res_main_v274 V0)
      = fun _ => Cert.KernelIdeal.Result.value f1 f2 p1 p2 a1 a2 := by
  funext j
  rw [Cert.ReferenceIdeal.Map.first_less, Cert.ReferenceIdeal.Map.second_shares, Cert.ReferenceIdeal.Map.first_avg,
    Cert.ReferenceIdeal.Map.second_avg, e0, e1, e2, e3, e4, e5]
  refine (Cert.ReferenceIdeal.Map.result_at _ _ j).trans ?_
  simp only [Cert.ReferenceIdeal.Map.avg_at f1 p1 a1 hf1 hp1, Cert.ReferenceIdeal.Map.avg_at f2 p2 a2 hf2 hp2]
  rfl

/-- Under the precondition the idealized kernel and the idealized reference end with the same scalar: the
    divergence of the two running averages after this batch's pooled windows are mixed in, over 21. -/
theorem algebraic : Cert.algebraic_KernelIdeal_ReferenceIdeal_pre_windows_on_finite_maps := by
  intro m g m' g' hpre hargs
  have hall c := Cert.Pre.all_of _ _ _ _ _ _ (hpre c)
  refine ⟨fun c => Cert.KernelIdeal.Gen.W4 m g c (Proc.devRef .tc Cert.KernelIdeal.main_v8), Cert.KernelIdeal.Result.run m g,
    (θ_run _ _ _).mono (fun r h c => ⟨(h c).1.trans ?_, (h c).2⟩) (Cert.ReferenceIdeal.Value.run m' g')⟩
  obtain ⟨hf1, hf2, hp1, hp2⟩ := hall c
  obtain ⟨e0, e1, e2, e3, e4, e5⟩ := hargs c
  have eR := reference_value (StableHlo.launchContents m' c) _ _ _ _ _ _ e0 e1 e2 e3 e4 e5 hf1 hf2 hp1 hp2
  have eK := Cert.KernelIdeal.Result.result m g c hf1 hf2 hp1 hp2
  exact eR.trans eK.symm

/-- Everything claimed of the kernel and the reference. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, fun m ρ _ => (θ_run _ _ _).mono (fun r h => ⟨fun c => (h c).2, sem_eq_zero_of_no_sems rfl _⟩) (Cert.ReferenceIdeal.Value.run m ρ),
    fun m ρ _ => (θ_run _ _ _).mono (fun r h => ⟨fun c => (h c).2, sem_eq_zero_of_no_sems rfl _⟩) (Cert.ReferenceIdeal.Value.run m ρ), preserves, algebraic⟩

end Cert.Proof

end
